-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1024x1 : Shape := ⟨2, ![1024, 1]⟩
abbrev S12800x1 : Shape := ⟨2, ![12800, 1]⟩
abbrev S12800 : Shape := ⟨1, ![12800]⟩
abbrev S2048x1 : Shape := ⟨2, ![2048, 1]⟩
abbrev S2048 : Shape := ⟨1, ![2048]⟩
abbrev S4096x1 : Shape := ⟨2, ![4096, 1]⟩
abbrev S4096 : Shape := ⟨1, ![4096]⟩
abbrev S1024 : Shape := ⟨1, ![1024]⟩
abbrev S_ : Shape := ⟨0, ![]⟩

class Facts : Prop where
  bcast_S_S12800 : S_.BroadcastsInDim S12800 (![] : Fin 0 → Fin S12800.rank)
  reducesTo_S12800_S_d0 : S12800.ReducesTo [0] S_
  h_S_ : 0 < S_.numel
  bcast_S_S2048 : S_.BroadcastsInDim S2048 (![] : Fin 0 → Fin S2048.rank)
  reducesTo_S2048_S_d0 : S2048.ReducesTo [0] S_
  bcast_S_S4096 : S_.BroadcastsInDim S4096 (![] : Fin 0 → Fin S4096.rank)
  reducesTo_S4096_S_d0 : S4096.ReducesTo [0] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg14 : IVec S4096 32) (main_arg15 : IVec S1024 32) (main_v12 : IVec S_ 1) (main_v14 : IVec S4096 1) (main_v15 : IVec S4096 32) : IVec S_ 1 :=
  let main_v16 : IVec S4096 1 := cmpi .slt main_arg14 main_v15
  let main_v17 : IVec S4096 1 := andi main_v14 main_v16
  let main_c_7 : IVec S_ 1 := constantI S_ 1 1#1
  let main_v18 : IVec S_ 1 := (fun x v => Host.reduce IntOp.andi x v reducesTo_S4096_S_d0 h_S_) main_v17 main_c_7
  let main_v19 : IVec S_ 1 := andi main_v12 main_v18
  let main_c_8 : IVec S_ 32 := constantI S_ 32 0#32
  let main_v20 : IVec S1024 32 := broadcastInDim S1024 ![] bcast_S_S1024 main_c_8
  let main_v21 : IVec S1024 1 := cmpi .sge main_arg15 main_v20
  let main_c_9 : IVec S_ 32 := constantI S_ 32 50000#32
  let main_v22 : IVec S1024 32 := broadcastInDim S1024 ![] bcast_S_S1024 main_c_9
  let main_v23 : IVec S1024 1 := cmpi .slt main_arg15 main_v22
  let main_v24 : IVec S1024 1 := andi main_v21 main_v23
  let main_c_10 : IVec S_ 1 := constantI S_ 1 1#1
  let main_v25 : IVec S_ 1 := (fun x v => Host.reduce IntOp.andi x v reducesTo_S1024_S_d0 h_S_) main_v24 main_c_10
  let main_v26 : IVec S_ 1 := andi main_v19 main_v25
  main_v26

def fn {F : FTy → Type} [FloatOps F] (main_arg0 : FVec F S1024x1 .f32) (main_arg1 : FVec F S1024x1 .f32) (main_arg2 : FVec F S1024x1 .f32) (main_arg3 : FVec F S1024x1 .f32) (main_arg4 : FVec F S12800x1 .f32) (main_arg5 : FVec F S12800 .f32) (main_arg6 : FVec F S2048x1 .f32) (main_arg7 : FVec F S2048 .f32) (main_arg8 : FVec F S4096x1 .f32) (main_arg9 : FVec F S4096 .f32) (main_arg10 : FVec F S1024x1 .f32) (main_arg11 : FVec F S1024 .f32) (main_arg12 : IVec S12800 32) (main_arg13 : IVec S2048 32) (main_arg14 : IVec S4096 32) (main_arg15 : IVec S1024 32) : IVec S_ 1 :=
  let main_c : IVec S_ 32 := constantI S_ 32 0#32
  let main_v0 : IVec S12800 32 := broadcastInDim S12800 ![] bcast_S_S12800 main_c
  let main_v1 : IVec S12800 1 := cmpi .sge main_arg12 main_v0
  let main_c_0 : IVec S_ 32 := constantI S_ 32 50000#32
  let main_v2 : IVec S12800 32 := broadcastInDim S12800 ![] bcast_S_S12800 main_c_0
  let main_v3 : IVec S12800 1 := cmpi .slt main_arg12 main_v2
  let main_v4 : IVec S12800 1 := andi main_v1 main_v3
  let main_c_1 : IVec S_ 1 := constantI S_ 1 1#1
  let main_v5 : IVec S_ 1 := (fun x v => Host.reduce IntOp.andi x v reducesTo_S12800_S_d0 h_S_) main_v4 main_c_1
  let main_c_2 : IVec S_ 32 := constantI S_ 32 0#32
  let main_v6 : IVec S2048 32 := broadcastInDim S2048 ![] bcast_S_S2048 main_c_2
  let main_v7 : IVec S2048 1 := cmpi .sge main_arg13 main_v6
  let main_c_3 : IVec S_ 32 := constantI S_ 32 50000#32
  let main_v8 : IVec S2048 32 := broadcastInDim S2048 ![] bcast_S_S2048 main_c_3
  let main_v9 : IVec S2048 1 := cmpi .slt main_arg13 main_v8
  let main_v10 : IVec S2048 1 := andi main_v7 main_v9
  let main_c_4 : IVec S_ 1 := constantI S_ 1 1#1
  let main_v11 : IVec S_ 1 := (fun x v => Host.reduce IntOp.andi x v reducesTo_S2048_S_d0 h_S_) main_v10 main_c_4
  let main_v12 : IVec S_ 1 := andi main_v5 main_v11
  let main_c_5 : IVec S_ 32 := constantI S_ 32 0#32
  let main_v13 : IVec S4096 32 := broadcastInDim S4096 ![] bcast_S_S4096 main_c_5
  let main_v14 : IVec S4096 1 := cmpi .sge main_arg14 main_v13
  let main_c_6 : IVec S_ 32 := constantI S_ 32 50000#32
  let main_v15 : IVec S4096 32 := broadcastInDim S4096 ![] bcast_S_S4096 main_c_6
  fn_part1 (F := F) main_arg14 main_arg15 main_v12 main_v14 main_v15
-- ==== Kernel.lean ====
abbrev S1024x1 : Shape := ⟨2, ![1024, 1]⟩
abbrev S12800x1 : Shape := ⟨2, ![12800, 1]⟩
abbrev S12800 : Shape := ⟨1, ![12800]⟩
abbrev S2048x1 : Shape := ⟨2, ![2048, 1]⟩
abbrev S2048 : Shape := ⟨1, ![2048]⟩
abbrev S4096x1 : Shape := ⟨2, ![4096, 1]⟩
abbrev S4096 : Shape := ⟨1, ![4096]⟩
abbrev S1024 : Shape := ⟨1, ![1024]⟩
abbrev S19968 : Shape := ⟨1, ![19968]⟩
abbrev S1024x4 : Shape := ⟨2, ![1024, 4]⟩
abbrev S1024x4x1 : Shape := ⟨3, ![1024, 4, 1]⟩
abbrev S1024x4x16 : Shape := ⟨3, ![1024, 4, 16]⟩
abbrev S65536 : Shape := ⟨1, ![65536]⟩
abbrev S51200000 : Shape := ⟨1, ![51200000]⟩
abbrev S25088 : Shape := ⟨1, ![25088]⟩
abbrev S_ : Shape := ⟨0, ![]⟩
abbrev S16 : Shape := ⟨1, ![16]⟩
abbrev S24912 : Shape := ⟨1, ![24912]⟩
abbrev S1024x50000 : Shape := ⟨2, ![1024, 50000]⟩

abbrev nBuf : Table → Nat
  | .hbm => 29
  | .local .scVector .vmem => 6
  | _ => 0

abbrev bufTy : (tb : Table) → Fin (nBuf tb) → BufTy
  | .hbm, ⟨0, _⟩ => ⟨S1024x1, .f32⟩
  | .hbm, ⟨1, _⟩ => ⟨S1024x1, .f32⟩
  | .hbm, ⟨2, _⟩ => ⟨S1024x1, .f32⟩
  | .hbm, ⟨3, _⟩ => ⟨S1024x1, .f32⟩
  | .hbm, ⟨4, _⟩ => ⟨S12800x1, .f32⟩
  | .hbm, ⟨5, _⟩ => ⟨S12800, .f32⟩
  | .hbm, ⟨6, _⟩ => ⟨S2048x1, .f32⟩
  | .hbm, ⟨7, _⟩ => ⟨S2048, .f32⟩
  | .hbm, ⟨8, _⟩ => ⟨S4096x1, .f32⟩
  | .hbm, ⟨9, _⟩ => ⟨S4096, .f32⟩
  | .hbm, ⟨10, _⟩ => ⟨S1024x1, .f32⟩
  | .hbm, ⟨11, _⟩ => ⟨S1024, .f32⟩
  | .hbm, ⟨12, _⟩ => ⟨S12800, .i32⟩
  | .hbm, ⟨13, _⟩ => ⟨S2048, .i32⟩
  | .hbm, ⟨14, _⟩ => ⟨S4096, .i32⟩
  | .hbm, ⟨15, _⟩ => ⟨S1024, .i32⟩
  | .hbm, ⟨16, _⟩ => ⟨S12800, .f32⟩
  | .hbm, ⟨17, _⟩ => ⟨S2048, .f32⟩
  | .hbm, ⟨18, _⟩ => ⟨S4096, .f32⟩
  | .hbm, ⟨19, _⟩ => ⟨S1024, .f32⟩
  | .hbm, ⟨20, _⟩ => ⟨S19968, .f32⟩
  | .hbm, ⟨21, _⟩ => ⟨S19968, .f32⟩
  | .hbm, ⟨22, _⟩ => ⟨S19968, .i32⟩
  | .hbm, ⟨23, _⟩ => ⟨S1024x4, .f32⟩
  | .hbm, ⟨24, _⟩ => ⟨S1024x4x1, .f32⟩
  | .hbm, ⟨25, _⟩ => ⟨S1024x4x16, .f32⟩
  | .hbm, ⟨26, _⟩ => ⟨S65536, .f32⟩
  | .hbm, ⟨27, _⟩ => ⟨S51200000, .f32⟩
  | .hbm, ⟨28, _⟩ => ⟨S1024x50000, .f32⟩
  | .local .scVector .vmem, ⟨0, _⟩ => ⟨S19968, .i32⟩
  | .local .scVector .vmem, ⟨1, _⟩ => ⟨S19968, .f32⟩
  | .local .scVector .vmem, ⟨2, _⟩ => ⟨S19968, .f32⟩
  | .local .scVector .vmem, ⟨3, _⟩ => ⟨S2048, .f32⟩
  | .local .scVector .vmem, ⟨4, _⟩ => ⟨S25088, .f32⟩
  | .local .scVector .vmem, ⟨5, _⟩ => ⟨S25088, .f32⟩
  | _, _ => ⟨S1024x1, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v6_scv : Ref sig .scVector := ⟨.hbm, 22, rfl⟩
abbrev main_v4_scv : Ref sig .scVector := ⟨.hbm, 20, rfl⟩
abbrev main_v5_scv : Ref sig .scVector := ⟨.hbm, 21, rfl⟩
abbrev main_v10_scv : Ref sig .scVector := ⟨.hbm, 26, rfl⟩
abbrev main_v11_scv : Ref sig .scVector := ⟨.hbm, 27, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  ![v2.toNat]
@[reducible] def k0_t1_loop : Scf.Loop 32 :=
  let c0_i32_0 : BitVec 32 := 0#32
  let c32_i32 : BitVec 32 := 32#32
  let v4 : BitVec 32 := Scalar.addi c0_i32_0 c32_i32
  let c1_i32 : BitVec 32 := 1#32
  ⟨c0_i32_0, v4, c1_i32⟩
@[reducible] def k0_t2_loop : Scf.Loop 32 :=
  let c0_i32_14 : BitVec 32 := 0#32
  let c98_i32 : BitVec 32 := 98#32
  let v18 : BitVec 32 := Scalar.addi c0_i32_14 c98_i32
  let c1_i32_15 : BitVec 32 := 1#32
  ⟨c0_i32_14, v18, c1_i32_15⟩
def k0_off2 (k0_t2 : Fin k0_t2_loop.trips) (c0_i32_142 : BitVec 32) : Fin 1 → Nat :=
  let c0_i32_14 : BitVec 32 := 0#32
  let c1_i32_15 : BitVec 32 := 1#32
  let arg16 : BitVec 32 := Scf.iv c0_i32_14 c1_i32_15 k0_t2
  let c256_i32 : BitVec 32 := 256#32
  let v279 : BitVec 32 := Scalar.muli arg16 c256_i32
  let v280 : BitVec 32 := Scalar.addi v279 c0_i32_142
  let v281 : Index := Scalar.indexCast v280
  ![v281.toNat]
@[reducible] def k0_t3_loop : Scf.Loop 32 :=
  let c0_i32_18 : BitVec 32 := 0#32
  let c98_i32_19 : BitVec 32 := 98#32
  let v19 : BitVec 32 := Scalar.addi c0_i32_18 c98_i32_19
  let c1_i32_20 : BitVec 32 := 1#32
  ⟨c0_i32_18, v19, c1_i32_20⟩
def k0_off3 (k0_t3 : Fin k0_t3_loop.trips) (c0_i32_142 : BitVec 32) : Fin 1 → Nat :=
  let c0_i32_18 : BitVec 32 := 0#32
  let c1_i32_20 : BitVec 32 := 1#32
  let arg16 : BitVec 32 := Scf.iv c0_i32_18 c1_i32_20 k0_t3
  let c256_i32 : BitVec 32 := 256#32
  let v279 : BitVec 32 := Scalar.muli arg16 c256_i32
  let v280 : BitVec 32 := Scalar.addi v279 c0_i32_142
  let v281 : Index := Scalar.indexCast v280
  ![v281.toNat]
def k0_off4 (k0_t1 : Fin k0_t1_loop.trips) (c0_i32_22 : BitVec 32) : Fin 1 → Nat :=
  let c0_i32_0 : BitVec 32 := 0#32
  let c1_i32 : BitVec 32 := 1#32
  let arg15 : BitVec 32 := Scf.iv c0_i32_0 c1_i32 k0_t1
  let c64_i32 : BitVec 32 := 64#32
  let v20 : BitVec 32 := Scalar.muli arg15 c64_i32
  let v21 : BitVec 32 := Scalar.addi v20 c0_i32_22
  let v22 : Index := Scalar.indexCast v21
  ![v22.toNat]
@[reducible] def k0_t4_loop : Scf.Loop 32 :=
  let c0_i32_47 : BitVec 32 := 0#32
  let c100_i32 : BitVec 32 := 100#32
  let v80 : BitVec 32 := Scalar.addi c0_i32_47 c100_i32
  let c1_i32_48 : BitVec 32 := 1#32
  ⟨c0_i32_47, v80, c1_i32_48⟩

def k0_chk1 (v282 : IVec S16 32) : Prop :=
  (∀ a x, ((![v282] : Fin 1 → IVec S16 32) a x).toNat < S25088.size a)
theorem k0_idx1_inb : ∀ (v282 : IVec S16 32) (k0_hw1 : k0_chk1 v282), ∀ a x, ((![v282] : Fin 1 → IVec S16 32) a x).toNat < S25088.size a := fun v282 k0_hw1 => k0_hw1

def k0_chk2 (v290 : IVec S16 32) : Prop :=
  (∀ a x, ((![v290] : Fin 1 → IVec S16 32) a x).toNat < S25088.size a)
theorem k0_idx2_inb : ∀ (v290 : IVec S16 32) (k0_hw2 : k0_chk2 v290), ∀ a x, ((![v290] : Fin 1 → IVec S16 32) a x).toNat < S25088.size a := fun v290 k0_hw2 => k0_hw2

def k0_chk3 (v296 : IVec S16 32) : Prop :=
  (∀ a x, ((![v296] : Fin 1 → IVec S16 32) a x).toNat < S25088.size a)
theorem k0_idx3_inb : ∀ (v296 : IVec S16 32) (k0_hw3 : k0_chk3 v296), ∀ a x, ((![v296] : Fin 1 → IVec S16 32) a x).toNat < S25088.size a := fun v296 k0_hw3 => k0_hw3

def k0_chk4 (v304 : IVec S16 32) : Prop :=
  (∀ a x, ((![v304] : Fin 1 → IVec S16 32) a x).toNat < S25088.size a)
theorem k0_idx4_inb : ∀ (v304 : IVec S16 32) (k0_hw4 : k0_chk4 v304), ∀ a x, ((![v304] : Fin 1 → IVec S16 32) a x).toNat < S25088.size a := fun v304 k0_hw4 => k0_hw4

def k0_chk5 (v310 : IVec S16 32) : Prop :=
  (∀ a x, ((![v310] : Fin 1 → IVec S16 32) a x).toNat < S25088.size a)
theorem k0_idx5_inb : ∀ (v310 : IVec S16 32) (k0_hw5 : k0_chk5 v310), ∀ a x, ((![v310] : Fin 1 → IVec S16 32) a x).toNat < S25088.size a := fun v310 k0_hw5 => k0_hw5

def k0_chk6 (v318 : IVec S16 32) : Prop :=
  (∀ a x, ((![v318] : Fin 1 → IVec S16 32) a x).toNat < S25088.size a)
theorem k0_idx6_inb : ∀ (v318 : IVec S16 32) (k0_hw6 : k0_chk6 v318), ∀ a x, ((![v318] : Fin 1 → IVec S16 32) a x).toNat < S25088.size a := fun v318 k0_hw6 => k0_hw6

def k0_chk7 (v324 : IVec S16 32) : Prop :=
  (∀ a x, ((![v324] : Fin 1 → IVec S16 32) a x).toNat < S25088.size a)
theorem k0_idx7_inb : ∀ (v324 : IVec S16 32) (k0_hw7 : k0_chk7 v324), ∀ a x, ((![v324] : Fin 1 → IVec S16 32) a x).toNat < S25088.size a := fun v324 k0_hw7 => k0_hw7

def k0_chk8 (v332 : IVec S16 32) : Prop :=
  (∀ a x, ((![v332] : Fin 1 → IVec S16 32) a x).toNat < S25088.size a)
theorem k0_idx8_inb : ∀ (v332 : IVec S16 32) (k0_hw8 : k0_chk8 v332), ∀ a x, ((![v332] : Fin 1 → IVec S16 32) a x).toNat < S25088.size a := fun v332 k0_hw8 => k0_hw8

def k0_chk9 (v338 : IVec S16 32) : Prop :=
  (∀ a x, ((![v338] : Fin 1 → IVec S16 32) a x).toNat < S25088.size a)
theorem k0_idx9_inb : ∀ (v338 : IVec S16 32) (k0_hw9 : k0_chk9 v338), ∀ a x, ((![v338] : Fin 1 → IVec S16 32) a x).toNat < S25088.size a := fun v338 k0_hw9 => k0_hw9

def k0_chk10 (v346 : IVec S16 32) : Prop :=
  (∀ a x, ((![v346] : Fin 1 → IVec S16 32) a x).toNat < S25088.size a)
theorem k0_idx10_inb : ∀ (v346 : IVec S16 32) (k0_hw10 : k0_chk10 v346), ∀ a x, ((![v346] : Fin 1 → IVec S16 32) a x).toNat < S25088.size a := fun v346 k0_hw10 => k0_hw10

def k0_chk11 (v352 : IVec S16 32) : Prop :=
  (∀ a x, ((![v352] : Fin 1 → IVec S16 32) a x).toNat < S25088.size a)
theorem k0_idx11_inb : ∀ (v352 : IVec S16 32) (k0_hw11 : k0_chk11 v352), ∀ a x, ((![v352] : Fin 1 → IVec S16 32) a x).toNat < S25088.size a := fun v352 k0_hw11 => k0_hw11

def k0_chk12 (v360 : IVec S16 32) : Prop :=
  (∀ a x, ((![v360] : Fin 1 → IVec S16 32) a x).toNat < S25088.size a)
theorem k0_idx12_inb : ∀ (v360 : IVec S16 32) (k0_hw12 : k0_chk12 v360), ∀ a x, ((![v360] : Fin 1 → IVec S16 32) a x).toNat < S25088.size a := fun v360 k0_hw12 => k0_hw12

def k0_chk13 (v366 : IVec S16 32) : Prop :=
  (∀ a x, ((![v366] : Fin 1 → IVec S16 32) a x).toNat < S25088.size a)
theorem k0_idx13_inb : ∀ (v366 : IVec S16 32) (k0_hw13 : k0_chk13 v366), ∀ a x, ((![v366] : Fin 1 → IVec S16 32) a x).toNat < S25088.size a := fun v366 k0_hw13 => k0_hw13

def k0_chk14 (v374 : IVec S16 32) : Prop :=
  (∀ a x, ((![v374] : Fin 1 → IVec S16 32) a x).toNat < S25088.size a)
theorem k0_idx14_inb : ∀ (v374 : IVec S16 32) (k0_hw14 : k0_chk14 v374), ∀ a x, ((![v374] : Fin 1 → IVec S16 32) a x).toNat < S25088.size a := fun v374 k0_hw14 => k0_hw14

def k0_chk15 (v380 : IVec S16 32) : Prop :=
  (∀ a x, ((![v380] : Fin 1 → IVec S16 32) a x).toNat < S25088.size a)
theorem k0_idx15_inb : ∀ (v380 : IVec S16 32) (k0_hw15 : k0_chk15 v380), ∀ a x, ((![v380] : Fin 1 → IVec S16 32) a x).toNat < S25088.size a := fun v380 k0_hw15 => k0_hw15

def k0_chk16 (v388 : IVec S16 32) : Prop :=
  (∀ a x, ((![v388] : Fin 1 → IVec S16 32) a x).toNat < S25088.size a)
theorem k0_idx16_inb : ∀ (v388 : IVec S16 32) (k0_hw16 : k0_chk16 v388), ∀ a x, ((![v388] : Fin 1 → IVec S16 32) a x).toNat < S25088.size a := fun v388 k0_hw16 => k0_hw16
def k0_off5 (k0_t4 : Fin k0_t4_loop.trips) (c0_i32_200 : BitVec 32) : Fin 1 → Nat :=
  let c0_i32_199 : BitVec 32 := 0#32
  let c0_i32_47 : BitVec 32 := 0#32
  let c1_i32_48 : BitVec 32 := 1#32
  let arg16 : BitVec 32 := Scf.iv c0_i32_47 c1_i32_48 k0_t4
  let c1_i32_198 : BitVec 32 := 1#32
  let v391 : BitVec 32 := Scalar.addi arg16 c1_i32_198
  let c99_i32 : BitVec 32 := 99#32
  let v392 : BitVec 32 := Scalar.minsi v391 c99_i32
  let c128_i32 : BitVec 32 := 128#32
  let v393 : BitVec 32 := Scalar.muli v392 c128_i32
  let v394 : BitVec 32 := Scalar.addi c0_i32_199 v393
  let v395 : BitVec 32 := Scalar.addi v394 c0_i32_200
  let v396 : Index := Scalar.indexCast v395
  ![v396.toNat]
@[reducible] def k0_t5_loop : Scf.Loop 32 :=
  let c0_i32_75 : BitVec 32 := 0#32
  let c16_i32_76 : BitVec 32 := 16#32
  let v142 : BitVec 32 := Scalar.addi c0_i32_75 c16_i32_76
  let c1_i32_77 : BitVec 32 := 1#32
  ⟨c0_i32_75, v142, c1_i32_77⟩

def k0_chk17 (v282 : IVec S16 32) : Prop :=
  (∀ a x, ((![v282] : Fin 1 → IVec S16 32) a x).toNat < S25088.size a)
theorem k0_idx17_inb : ∀ (v282 : IVec S16 32) (k0_hw17 : k0_chk17 v282), ∀ a x, ((![v282] : Fin 1 → IVec S16 32) a x).toNat < S25088.size a := fun v282 k0_hw17 => k0_hw17

def k0_chk18 (v290 : IVec S16 32) : Prop :=
  (∀ a x, ((![v290] : Fin 1 → IVec S16 32) a x).toNat < S25088.size a)
theorem k0_idx18_inb : ∀ (v290 : IVec S16 32) (k0_hw18 : k0_chk18 v290), ∀ a x, ((![v290] : Fin 1 → IVec S16 32) a x).toNat < S25088.size a := fun v290 k0_hw18 => k0_hw18

def k0_chk19 (v296 : IVec S16 32) : Prop :=
  (∀ a x, ((![v296] : Fin 1 → IVec S16 32) a x).toNat < S25088.size a)
theorem k0_idx19_inb : ∀ (v296 : IVec S16 32) (k0_hw19 : k0_chk19 v296), ∀ a x, ((![v296] : Fin 1 → IVec S16 32) a x).toNat < S25088.size a := fun v296 k0_hw19 => k0_hw19

def k0_chk20 (v304 : IVec S16 32) : Prop :=
  (∀ a x, ((![v304] : Fin 1 → IVec S16 32) a x).toNat < S25088.size a)
theorem k0_idx20_inb : ∀ (v304 : IVec S16 32) (k0_hw20 : k0_chk20 v304), ∀ a x, ((![v304] : Fin 1 → IVec S16 32) a x).toNat < S25088.size a := fun v304 k0_hw20 => k0_hw20

def k0_chk21 (v310 : IVec S16 32) : Prop :=
  (∀ a x, ((![v310] : Fin 1 → IVec S16 32) a x).toNat < S25088.size a)
theorem k0_idx21_inb : ∀ (v310 : IVec S16 32) (k0_hw21 : k0_chk21 v310), ∀ a x, ((![v310] : Fin 1 → IVec S16 32) a x).toNat < S25088.size a := fun v310 k0_hw21 => k0_hw21

def k0_chk22 (v318 : IVec S16 32) : Prop :=
  (∀ a x, ((![v318] : Fin 1 → IVec S16 32) a x).toNat < S25088.size a)
theorem k0_idx22_inb : ∀ (v318 : IVec S16 32) (k0_hw22 : k0_chk22 v318), ∀ a x, ((![v318] : Fin 1 → IVec S16 32) a x).toNat < S25088.size a := fun v318 k0_hw22 => k0_hw22

def k0_chk23 (v324 : IVec S16 32) : Prop :=
  (∀ a x, ((![v324] : Fin 1 → IVec S16 32) a x).toNat < S25088.size a)
theorem k0_idx23_inb : ∀ (v324 : IVec S16 32) (k0_hw23 : k0_chk23 v324), ∀ a x, ((![v324] : Fin 1 → IVec S16 32) a x).toNat < S25088.size a := fun v324 k0_hw23 => k0_hw23

def k0_chk24 (v332 : IVec S16 32) : Prop :=
  (∀ a x, ((![v332] : Fin 1 → IVec S16 32) a x).toNat < S25088.size a)
theorem k0_idx24_inb : ∀ (v332 : IVec S16 32) (k0_hw24 : k0_chk24 v332), ∀ a x, ((![v332] : Fin 1 → IVec S16 32) a x).toNat < S25088.size a := fun v332 k0_hw24 => k0_hw24

def k0_chk25 (v338 : IVec S16 32) : Prop :=
  (∀ a x, ((![v338] : Fin 1 → IVec S16 32) a x).toNat < S25088.size a)
theorem k0_idx25_inb : ∀ (v338 : IVec S16 32) (k0_hw25 : k0_chk25 v338), ∀ a x, ((![v338] : Fin 1 → IVec S16 32) a x).toNat < S25088.size a := fun v338 k0_hw25 => k0_hw25

def k0_chk26 (v346 : IVec S16 32) : Prop :=
  (∀ a x, ((![v346] : Fin 1 → IVec S16 32) a x).toNat < S25088.size a)
theorem k0_idx26_inb : ∀ (v346 : IVec S16 32) (k0_hw26 : k0_chk26 v346), ∀ a x, ((![v346] : Fin 1 → IVec S16 32) a x).toNat < S25088.size a := fun v346 k0_hw26 => k0_hw26

def k0_chk27 (v352 : IVec S16 32) : Prop :=
  (∀ a x, ((![v352] : Fin 1 → IVec S16 32) a x).toNat < S25088.size a)
theorem k0_idx27_inb : ∀ (v352 : IVec S16 32) (k0_hw27 : k0_chk27 v352), ∀ a x, ((![v352] : Fin 1 → IVec S16 32) a x).toNat < S25088.size a := fun v352 k0_hw27 => k0_hw27

def k0_chk28 (v360 : IVec S16 32) : Prop :=
  (∀ a x, ((![v360] : Fin 1 → IVec S16 32) a x).toNat < S25088.size a)
theorem k0_idx28_inb : ∀ (v360 : IVec S16 32) (k0_hw28 : k0_chk28 v360), ∀ a x, ((![v360] : Fin 1 → IVec S16 32) a x).toNat < S25088.size a := fun v360 k0_hw28 => k0_hw28

def k0_chk29 (v366 : IVec S16 32) : Prop :=
  (∀ a x, ((![v366] : Fin 1 → IVec S16 32) a x).toNat < S25088.size a)
theorem k0_idx29_inb : ∀ (v366 : IVec S16 32) (k0_hw29 : k0_chk29 v366), ∀ a x, ((![v366] : Fin 1 → IVec S16 32) a x).toNat < S25088.size a := fun v366 k0_hw29 => k0_hw29

def k0_chk30 (v374 : IVec S16 32) : Prop :=
  (∀ a x, ((![v374] : Fin 1 → IVec S16 32) a x).toNat < S25088.size a)
theorem k0_idx30_inb : ∀ (v374 : IVec S16 32) (k0_hw30 : k0_chk30 v374), ∀ a x, ((![v374] : Fin 1 → IVec S16 32) a x).toNat < S25088.size a := fun v374 k0_hw30 => k0_hw30

def k0_chk31 (v380 : IVec S16 32) : Prop :=
  (∀ a x, ((![v380] : Fin 1 → IVec S16 32) a x).toNat < S25088.size a)
theorem k0_idx31_inb : ∀ (v380 : IVec S16 32) (k0_hw31 : k0_chk31 v380), ∀ a x, ((![v380] : Fin 1 → IVec S16 32) a x).toNat < S25088.size a := fun v380 k0_hw31 => k0_hw31

def k0_chk32 (v388 : IVec S16 32) : Prop :=
  (∀ a x, ((![v388] : Fin 1 → IVec S16 32) a x).toNat < S25088.size a)
theorem k0_idx32_inb : ∀ (v388 : IVec S16 32) (k0_hw32 : k0_chk32 v388), ∀ a x, ((![v388] : Fin 1 → IVec S16 32) a x).toNat < S25088.size a := fun v388 k0_hw32 => k0_hw32
def k0_off6 (k0_t5 : Fin k0_t5_loop.trips) (c0_i32_199 : BitVec 32) : Fin 1 → Nat :=
  let c12800_i32 : BitVec 32 := 12800#32
  let c0_i32_75 : BitVec 32 := 0#32
  let c1_i32_77 : BitVec 32 := 1#32
  let arg16 : BitVec 32 := Scf.iv c0_i32_75 c1_i32_77 k0_t5
  let c1_i32_198 : BitVec 32 := 1#32
  let v391 : BitVec 32 := Scalar.addi arg16 c1_i32_198
  let c15_i32 : BitVec 32 := 15#32
  let v392 : BitVec 32 := Scalar.minsi v391 c15_i32
  let c128_i32 : BitVec 32 := 128#32
  let v393 : BitVec 32 := Scalar.muli v392 c128_i32
  let v394 : BitVec 32 := Scalar.addi c12800_i32 v393
  let v395 : BitVec 32 := Scalar.addi v394 c0_i32_199
  let v396 : Index := Scalar.indexCast v395
  ![v396.toNat]
@[reducible] def k0_t6_loop : Scf.Loop 32 :=
  let c0_i32_105 : BitVec 32 := 0#32
  let c32_i32_106 : BitVec 32 := 32#32
  let v204 : BitVec 32 := Scalar.addi c0_i32_105 c32_i32_106
  let c1_i32_107 : BitVec 32 := 1#32
  ⟨c0_i32_105, v204, c1_i32_107⟩

def k0_chk33 (v282 : IVec S16 32) : Prop :=
  (∀ a x, ((![v282] : Fin 1 → IVec S16 32) a x).toNat < S25088.size a)
theorem k0_idx33_inb : ∀ (v282 : IVec S16 32) (k0_hw33 : k0_chk33 v282), ∀ a x, ((![v282] : Fin 1 → IVec S16 32) a x).toNat < S25088.size a := fun v282 k0_hw33 => k0_hw33

def k0_chk34 (v290 : IVec S16 32) : Prop :=
  (∀ a x, ((![v290] : Fin 1 → IVec S16 32) a x).toNat < S25088.size a)
theorem k0_idx34_inb : ∀ (v290 : IVec S16 32) (k0_hw34 : k0_chk34 v290), ∀ a x, ((![v290] : Fin 1 → IVec S16 32) a x).toNat < S25088.size a := fun v290 k0_hw34 => k0_hw34

def k0_chk35 (v296 : IVec S16 32) : Prop :=
  (∀ a x, ((![v296] : Fin 1 → IVec S16 32) a x).toNat < S25088.size a)
theorem k0_idx35_inb : ∀ (v296 : IVec S16 32) (k0_hw35 : k0_chk35 v296), ∀ a x, ((![v296] : Fin 1 → IVec S16 32) a x).toNat < S25088.size a := fun v296 k0_hw35 => k0_hw35

def k0_chk36 (v304 : IVec S16 32) : Prop :=
  (∀ a x, ((![v304] : Fin 1 → IVec S16 32) a x).toNat < S25088.size a)
theorem k0_idx36_inb : ∀ (v304 : IVec S16 32) (k0_hw36 : k0_chk36 v304), ∀ a x, ((![v304] : Fin 1 → IVec S16 32) a x).toNat < S25088.size a := fun v304 k0_hw36 => k0_hw36

def k0_chk37 (v310 : IVec S16 32) : Prop :=
  (∀ a x, ((![v310] : Fin 1 → IVec S16 32) a x).toNat < S25088.size a)
theorem k0_idx37_inb : ∀ (v310 : IVec S16 32) (k0_hw37 : k0_chk37 v310), ∀ a x, ((![v310] : Fin 1 → IVec S16 32) a x).toNat < S25088.size a := fun v310 k0_hw37 => k0_hw37

def k0_chk38 (v318 : IVec S16 32) : Prop :=
  (∀ a x, ((![v318] : Fin 1 → IVec S16 32) a x).toNat < S25088.size a)
theorem k0_idx38_inb : ∀ (v318 : IVec S16 32) (k0_hw38 : k0_chk38 v318), ∀ a x, ((![v318] : Fin 1 → IVec S16 32) a x).toNat < S25088.size a := fun v318 k0_hw38 => k0_hw38

def k0_chk39 (v324 : IVec S16 32) : Prop :=
  (∀ a x, ((![v324] : Fin 1 → IVec S16 32) a x).toNat < S25088.size a)
theorem k0_idx39_inb : ∀ (v324 : IVec S16 32) (k0_hw39 : k0_chk39 v324), ∀ a x, ((![v324] : Fin 1 → IVec S16 32) a x).toNat < S25088.size a := fun v324 k0_hw39 => k0_hw39

def k0_chk40 (v332 : IVec S16 32) : Prop :=
  (∀ a x, ((![v332] : Fin 1 → IVec S16 32) a x).toNat < S25088.size a)
theorem k0_idx40_inb : ∀ (v332 : IVec S16 32) (k0_hw40 : k0_chk40 v332), ∀ a x, ((![v332] : Fin 1 → IVec S16 32) a x).toNat < S25088.size a := fun v332 k0_hw40 => k0_hw40

def k0_chk41 (v338 : IVec S16 32) : Prop :=
  (∀ a x, ((![v338] : Fin 1 → IVec S16 32) a x).toNat < S25088.size a)
theorem k0_idx41_inb : ∀ (v338 : IVec S16 32) (k0_hw41 : k0_chk41 v338), ∀ a x, ((![v338] : Fin 1 → IVec S16 32) a x).toNat < S25088.size a := fun v338 k0_hw41 => k0_hw41

def k0_chk42 (v346 : IVec S16 32) : Prop :=
  (∀ a x, ((![v346] : Fin 1 → IVec S16 32) a x).toNat < S25088.size a)
theorem k0_idx42_inb : ∀ (v346 : IVec S16 32) (k0_hw42 : k0_chk42 v346), ∀ a x, ((![v346] : Fin 1 → IVec S16 32) a x).toNat < S25088.size a := fun v346 k0_hw42 => k0_hw42

def k0_chk43 (v352 : IVec S16 32) : Prop :=
  (∀ a x, ((![v352] : Fin 1 → IVec S16 32) a x).toNat < S25088.size a)
theorem k0_idx43_inb : ∀ (v352 : IVec S16 32) (k0_hw43 : k0_chk43 v352), ∀ a x, ((![v352] : Fin 1 → IVec S16 32) a x).toNat < S25088.size a := fun v352 k0_hw43 => k0_hw43

def k0_chk44 (v360 : IVec S16 32) : Prop :=
  (∀ a x, ((![v360] : Fin 1 → IVec S16 32) a x).toNat < S25088.size a)
theorem k0_idx44_inb : ∀ (v360 : IVec S16 32) (k0_hw44 : k0_chk44 v360), ∀ a x, ((![v360] : Fin 1 → IVec S16 32) a x).toNat < S25088.size a := fun v360 k0_hw44 => k0_hw44

def k0_chk45 (v366 : IVec S16 32) : Prop :=
  (∀ a x, ((![v366] : Fin 1 → IVec S16 32) a x).toNat < S25088.size a)
theorem k0_idx45_inb : ∀ (v366 : IVec S16 32) (k0_hw45 : k0_chk45 v366), ∀ a x, ((![v366] : Fin 1 → IVec S16 32) a x).toNat < S25088.size a := fun v366 k0_hw45 => k0_hw45

def k0_chk46 (v374 : IVec S16 32) : Prop :=
  (∀ a x, ((![v374] : Fin 1 → IVec S16 32) a x).toNat < S25088.size a)
theorem k0_idx46_inb : ∀ (v374 : IVec S16 32) (k0_hw46 : k0_chk46 v374), ∀ a x, ((![v374] : Fin 1 → IVec S16 32) a x).toNat < S25088.size a := fun v374 k0_hw46 => k0_hw46

def k0_chk47 (v380 : IVec S16 32) : Prop :=
  (∀ a x, ((![v380] : Fin 1 → IVec S16 32) a x).toNat < S25088.size a)
theorem k0_idx47_inb : ∀ (v380 : IVec S16 32) (k0_hw47 : k0_chk47 v380), ∀ a x, ((![v380] : Fin 1 → IVec S16 32) a x).toNat < S25088.size a := fun v380 k0_hw47 => k0_hw47

def k0_chk48 (v388 : IVec S16 32) : Prop :=
  (∀ a x, ((![v388] : Fin 1 → IVec S16 32) a x).toNat < S25088.size a)
theorem k0_idx48_inb : ∀ (v388 : IVec S16 32) (k0_hw48 : k0_chk48 v388), ∀ a x, ((![v388] : Fin 1 → IVec S16 32) a x).toNat < S25088.size a := fun v388 k0_hw48 => k0_hw48
def k0_off7 (k0_t6 : Fin k0_t6_loop.trips) (c0_i32_199 : BitVec 32) : Fin 1 → Nat :=
  let c14848_i32 : BitVec 32 := 14848#32
  let c0_i32_105 : BitVec 32 := 0#32
  let c1_i32_107 : BitVec 32 := 1#32
  let arg16 : BitVec 32 := Scf.iv c0_i32_105 c1_i32_107 k0_t6
  let c1_i32_198 : BitVec 32 := 1#32
  let v391 : BitVec 32 := Scalar.addi arg16 c1_i32_198
  let c31_i32 : BitVec 32 := 31#32
  let v392 : BitVec 32 := Scalar.minsi v391 c31_i32
  let c128_i32 : BitVec 32 := 128#32
  let v393 : BitVec 32 := Scalar.muli v392 c128_i32
  let v394 : BitVec 32 := Scalar.addi c14848_i32 v393
  let v395 : BitVec 32 := Scalar.addi v394 c0_i32_199
  let v396 : Index := Scalar.indexCast v395
  ![v396.toNat]
@[reducible] def k0_t7_loop : Scf.Loop 32 :=
  let c0_i32_134 : BitVec 32 := 0#32
  let c8_i32 : BitVec 32 := 8#32
  let v266 : BitVec 32 := Scalar.addi c0_i32_134 c8_i32
  let c1_i32_135 : BitVec 32 := 1#32
  ⟨c0_i32_134, v266, c1_i32_135⟩

def k0_chk49 (v282 : IVec S16 32) : Prop :=
  (∀ a x, ((![v282] : Fin 1 → IVec S16 32) a x).toNat < S25088.size a)
theorem k0_idx49_inb : ∀ (v282 : IVec S16 32) (k0_hw49 : k0_chk49 v282), ∀ a x, ((![v282] : Fin 1 → IVec S16 32) a x).toNat < S25088.size a := fun v282 k0_hw49 => k0_hw49

def k0_chk50 (v290 : IVec S16 32) : Prop :=
  (∀ a x, ((![v290] : Fin 1 → IVec S16 32) a x).toNat < S25088.size a)
theorem k0_idx50_inb : ∀ (v290 : IVec S16 32) (k0_hw50 : k0_chk50 v290), ∀ a x, ((![v290] : Fin 1 → IVec S16 32) a x).toNat < S25088.size a := fun v290 k0_hw50 => k0_hw50

def k0_chk51 (v296 : IVec S16 32) : Prop :=
  (∀ a x, ((![v296] : Fin 1 → IVec S16 32) a x).toNat < S25088.size a)
theorem k0_idx51_inb : ∀ (v296 : IVec S16 32) (k0_hw51 : k0_chk51 v296), ∀ a x, ((![v296] : Fin 1 → IVec S16 32) a x).toNat < S25088.size a := fun v296 k0_hw51 => k0_hw51

def k0_chk52 (v304 : IVec S16 32) : Prop :=
  (∀ a x, ((![v304] : Fin 1 → IVec S16 32) a x).toNat < S25088.size a)
theorem k0_idx52_inb : ∀ (v304 : IVec S16 32) (k0_hw52 : k0_chk52 v304), ∀ a x, ((![v304] : Fin 1 → IVec S16 32) a x).toNat < S25088.size a := fun v304 k0_hw52 => k0_hw52

def k0_chk53 (v310 : IVec S16 32) : Prop :=
  (∀ a x, ((![v310] : Fin 1 → IVec S16 32) a x).toNat < S25088.size a)
theorem k0_idx53_inb : ∀ (v310 : IVec S16 32) (k0_hw53 : k0_chk53 v310), ∀ a x, ((![v310] : Fin 1 → IVec S16 32) a x).toNat < S25088.size a := fun v310 k0_hw53 => k0_hw53

def k0_chk54 (v318 : IVec S16 32) : Prop :=
  (∀ a x, ((![v318] : Fin 1 → IVec S16 32) a x).toNat < S25088.size a)
theorem k0_idx54_inb : ∀ (v318 : IVec S16 32) (k0_hw54 : k0_chk54 v318), ∀ a x, ((![v318] : Fin 1 → IVec S16 32) a x).toNat < S25088.size a := fun v318 k0_hw54 => k0_hw54

def k0_chk55 (v324 : IVec S16 32) : Prop :=
  (∀ a x, ((![v324] : Fin 1 → IVec S16 32) a x).toNat < S25088.size a)
theorem k0_idx55_inb : ∀ (v324 : IVec S16 32) (k0_hw55 : k0_chk55 v324), ∀ a x, ((![v324] : Fin 1 → IVec S16 32) a x).toNat < S25088.size a := fun v324 k0_hw55 => k0_hw55

def k0_chk56 (v332 : IVec S16 32) : Prop :=
  (∀ a x, ((![v332] : Fin 1 → IVec S16 32) a x).toNat < S25088.size a)
theorem k0_idx56_inb : ∀ (v332 : IVec S16 32) (k0_hw56 : k0_chk56 v332), ∀ a x, ((![v332] : Fin 1 → IVec S16 32) a x).toNat < S25088.size a := fun v332 k0_hw56 => k0_hw56

def k0_chk57 (v338 : IVec S16 32) : Prop :=
  (∀ a x, ((![v338] : Fin 1 → IVec S16 32) a x).toNat < S25088.size a)
theorem k0_idx57_inb : ∀ (v338 : IVec S16 32) (k0_hw57 : k0_chk57 v338), ∀ a x, ((![v338] : Fin 1 → IVec S16 32) a x).toNat < S25088.size a := fun v338 k0_hw57 => k0_hw57

def k0_chk58 (v346 : IVec S16 32) : Prop :=
  (∀ a x, ((![v346] : Fin 1 → IVec S16 32) a x).toNat < S25088.size a)
theorem k0_idx58_inb : ∀ (v346 : IVec S16 32) (k0_hw58 : k0_chk58 v346), ∀ a x, ((![v346] : Fin 1 → IVec S16 32) a x).toNat < S25088.size a := fun v346 k0_hw58 => k0_hw58

def k0_chk59 (v352 : IVec S16 32) : Prop :=
  (∀ a x, ((![v352] : Fin 1 → IVec S16 32) a x).toNat < S25088.size a)
theorem k0_idx59_inb : ∀ (v352 : IVec S16 32) (k0_hw59 : k0_chk59 v352), ∀ a x, ((![v352] : Fin 1 → IVec S16 32) a x).toNat < S25088.size a := fun v352 k0_hw59 => k0_hw59

def k0_chk60 (v360 : IVec S16 32) : Prop :=
  (∀ a x, ((![v360] : Fin 1 → IVec S16 32) a x).toNat < S25088.size a)
theorem k0_idx60_inb : ∀ (v360 : IVec S16 32) (k0_hw60 : k0_chk60 v360), ∀ a x, ((![v360] : Fin 1 → IVec S16 32) a x).toNat < S25088.size a := fun v360 k0_hw60 => k0_hw60

def k0_chk61 (v366 : IVec S16 32) : Prop :=
  (∀ a x, ((![v366] : Fin 1 → IVec S16 32) a x).toNat < S25088.size a)
theorem k0_idx61_inb : ∀ (v366 : IVec S16 32) (k0_hw61 : k0_chk61 v366), ∀ a x, ((![v366] : Fin 1 → IVec S16 32) a x).toNat < S25088.size a := fun v366 k0_hw61 => k0_hw61

def k0_chk62 (v374 : IVec S16 32) : Prop :=
  (∀ a x, ((![v374] : Fin 1 → IVec S16 32) a x).toNat < S25088.size a)
theorem k0_idx62_inb : ∀ (v374 : IVec S16 32) (k0_hw62 : k0_chk62 v374), ∀ a x, ((![v374] : Fin 1 → IVec S16 32) a x).toNat < S25088.size a := fun v374 k0_hw62 => k0_hw62

def k0_chk63 (v380 : IVec S16 32) : Prop :=
  (∀ a x, ((![v380] : Fin 1 → IVec S16 32) a x).toNat < S25088.size a)
theorem k0_idx63_inb : ∀ (v380 : IVec S16 32) (k0_hw63 : k0_chk63 v380), ∀ a x, ((![v380] : Fin 1 → IVec S16 32) a x).toNat < S25088.size a := fun v380 k0_hw63 => k0_hw63

def k0_chk64 (v388 : IVec S16 32) : Prop :=
  (∀ a x, ((![v388] : Fin 1 → IVec S16 32) a x).toNat < S25088.size a)
theorem k0_idx64_inb : ∀ (v388 : IVec S16 32) (k0_hw64 : k0_chk64 v388), ∀ a x, ((![v388] : Fin 1 → IVec S16 32) a x).toNat < S25088.size a := fun v388 k0_hw64 => k0_hw64
def k0_off8 (k0_t7 : Fin k0_t7_loop.trips) (c0_i32_199 : BitVec 32) : Fin 1 → Nat :=
  let c18944_i32 : BitVec 32 := 18944#32
  let c0_i32_134 : BitVec 32 := 0#32
  let c1_i32_135 : BitVec 32 := 1#32
  let arg16 : BitVec 32 := Scf.iv c0_i32_134 c1_i32_135 k0_t7
  let c1_i32_198 : BitVec 32 := 1#32
  let v391 : BitVec 32 := Scalar.addi arg16 c1_i32_198
  let c7_i32 : BitVec 32 := 7#32
  let v392 : BitVec 32 := Scalar.minsi v391 c7_i32
  let c128_i32 : BitVec 32 := 128#32
  let v393 : BitVec 32 := Scalar.muli v392 c128_i32
  let v394 : BitVec 32 := Scalar.addi c18944_i32 v393
  let v395 : BitVec 32 := Scalar.addi v394 c0_i32_199
  let v396 : Index := Scalar.indexCast v395
  ![v396.toNat]
def k0_off9 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_10 : BitVec 32 := 32#32
  let v13 : BitVec 32 := Scalar.muli v1 c32_i32_10
  let c0_i32_0 : BitVec 32 := 0#32
  let c1_i32 : BitVec 32 := 1#32
  let arg15 : BitVec 32 := Scf.iv c0_i32_0 c1_i32 k0_t1
  let v14 : BitVec 32 := Scalar.addi v13 arg15
  let c50000_i32 : BitVec 32 := 50000#32
  let v268 : BitVec 32 := Scalar.muli v14 c50000_i32
  ![v268.toNat]
def k0_off10 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_10 : BitVec 32 := 32#32
  let v13 : BitVec 32 := Scalar.muli v1 c32_i32_10
  let c0_i32_0 : BitVec 32 := 0#32
  let c1_i32 : BitVec 32 := 1#32
  let arg15 : BitVec 32 := Scf.iv c0_i32_0 c1_i32 k0_t1
  let v14 : BitVec 32 := Scalar.addi v13 arg15
  let c50000_i32_139 : BitVec 32 := 50000#32
  let v273 : BitVec 32 := Scalar.muli v14 c50000_i32_139
  let c25088_i32 : BitVec 32 := 25088#32
  let v274 : BitVec 32 := Scalar.addi v273 c25088_i32
  ![v274.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x1 : Shape := ⟨2, ![1024, 1]⟩
abbrev S12800x1 : Shape := ⟨2, ![12800, 1]⟩
abbrev S12800 : Shape := ⟨1, ![12800]⟩
abbrev S2048x1 : Shape := ⟨2, ![2048, 1]⟩
abbrev S2048 : Shape := ⟨1, ![2048]⟩
abbrev S4096x1 : Shape := ⟨2, ![4096, 1]⟩
abbrev S4096 : Shape := ⟨1, ![4096]⟩
abbrev S1024 : Shape := ⟨1, ![1024]⟩
abbrev S1x12800 : Shape := ⟨2, ![1, 12800]⟩
abbrev S1024x12800 : Shape := ⟨2, ![1024, 12800]⟩
abbrev S_ : Shape := ⟨0, ![]⟩
abbrev S1x2048 : Shape := ⟨2, ![1, 2048]⟩
abbrev S1024x2048 : Shape := ⟨2, ![1024, 2048]⟩
abbrev S1x4096 : Shape := ⟨2, ![1, 4096]⟩
abbrev S1024x4096 : Shape := ⟨2, ![1024, 4096]⟩
abbrev S1x1024 : Shape := ⟨2, ![1, 1024]⟩
abbrev S1024x1024 : Shape := ⟨2, ![1024, 1024]⟩
abbrev S1024x19968 : Shape := ⟨2, ![1024, 19968]⟩
abbrev S19968 : Shape := ⟨1, ![19968]⟩
abbrev S1024x50000 : Shape := ⟨2, ![1024, 50000]⟩
abbrev S19968x1 : Shape := ⟨2, ![19968, 1]⟩

abbrev nBuf : Space → Nat
  | .hbm => 61
  | .vmem => 0
  | .smem => 0
  | _ => 0

abbrev bufTy : (tb : Table) → Fin (tcTables nBuf tb) → BufTy
  | .hbm, ⟨0, _⟩ => ⟨S1024x1, .f32⟩
  | .hbm, ⟨1, _⟩ => ⟨S1024x1, .f32⟩
  | .hbm, ⟨2, _⟩ => ⟨S1024x1, .f32⟩
  | .hbm, ⟨3, _⟩ => ⟨S1024x1, .f32⟩
  | .hbm, ⟨4, _⟩ => ⟨S12800x1, .f32⟩
  | .hbm, ⟨5, _⟩ => ⟨S12800, .f32⟩
  | .hbm, ⟨6, _⟩ => ⟨S2048x1, .f32⟩
  | .hbm, ⟨7, _⟩ => ⟨S2048, .f32⟩
  | .hbm, ⟨8, _⟩ => ⟨S4096x1, .f32⟩
  | .hbm, ⟨9, _⟩ => ⟨S4096, .f32⟩
  | .hbm, ⟨10, _⟩ => ⟨S1024x1, .f32⟩
  | .hbm, ⟨11, _⟩ => ⟨S1024, .f32⟩
  | .hbm, ⟨12, _⟩ => ⟨S12800, .i32⟩
  | .hbm, ⟨13, _⟩ => ⟨S2048, .i32⟩
  | .hbm, ⟨14, _⟩ => ⟨S4096, .i32⟩
  | .hbm, ⟨15, _⟩ => ⟨S1024, .i32⟩
  | .hbm, ⟨16, _⟩ => ⟨S1x12800, .f32⟩
  | .hbm, ⟨17, _⟩ => ⟨S1024x12800, .f32⟩
  | .hbm, ⟨18, _⟩ => ⟨S1x12800, .f32⟩
  | .hbm, ⟨19, _⟩ => ⟨S1024x12800, .f32⟩
  | .hbm, ⟨20, _⟩ => ⟨S1024x12800, .f32⟩
  | .hbm, ⟨21, _⟩ => ⟨S_, .f32⟩
  | .hbm, ⟨22, _⟩ => ⟨S1024x12800, .f32⟩
  | .hbm, ⟨23, _⟩ => ⟨S1024x12800, .f32⟩
  | .hbm, ⟨24, _⟩ => ⟨S1x2048, .f32⟩
  | .hbm, ⟨25, _⟩ => ⟨S1024x2048, .f32⟩
  | .hbm, ⟨26, _⟩ => ⟨S1x2048, .f32⟩
  | .hbm, ⟨27, _⟩ => ⟨S1024x2048, .f32⟩
  | .hbm, ⟨28, _⟩ => ⟨S1024x2048, .f32⟩
  | .hbm, ⟨29, _⟩ => ⟨S_, .f32⟩
  | .hbm, ⟨30, _⟩ => ⟨S1024x2048, .f32⟩
  | .hbm, ⟨31, _⟩ => ⟨S1024x2048, .f32⟩
  | .hbm, ⟨32, _⟩ => ⟨S1x4096, .f32⟩
  | .hbm, ⟨33, _⟩ => ⟨S1024x4096, .f32⟩
  | .hbm, ⟨34, _⟩ => ⟨S1x4096, .f32⟩
  | .hbm, ⟨35, _⟩ => ⟨S1024x4096, .f32⟩
  | .hbm, ⟨36, _⟩ => ⟨S1024x4096, .f32⟩
  | .hbm, ⟨37, _⟩ => ⟨S_, .f32⟩
  | .hbm, ⟨38, _⟩ => ⟨S1024x4096, .f32⟩
  | .hbm, ⟨39, _⟩ => ⟨S1024x4096, .f32⟩
  | .hbm, ⟨40, _⟩ => ⟨S1x1024, .f32⟩
  | .hbm, ⟨41, _⟩ => ⟨S1024x1024, .f32⟩
  | .hbm, ⟨42, _⟩ => ⟨S1x1024, .f32⟩
  | .hbm, ⟨43, _⟩ => ⟨S1024x1024, .f32⟩
  | .hbm, ⟨44, _⟩ => ⟨S1024x1024, .f32⟩
  | .hbm, ⟨45, _⟩ => ⟨S_, .f32⟩
  | .hbm, ⟨46, _⟩ => ⟨S1024x1024, .f32⟩
  | .hbm, ⟨47, _⟩ => ⟨S1024x1024, .f32⟩
  | .hbm, ⟨48, _⟩ => ⟨S1024x19968, .f32⟩
  | .hbm, ⟨49, _⟩ => ⟨S19968, .i32⟩
  | .hbm, ⟨50, _⟩ => ⟨S_, .f32⟩
  | .hbm, ⟨51, _⟩ => ⟨S1024x50000, .f32⟩
  | .hbm, ⟨52, _⟩ => ⟨S_, .i32⟩
  | .hbm, ⟨53, _⟩ => ⟨S19968, .i32⟩
  | .hbm, ⟨54, _⟩ => ⟨S19968, .i1⟩
  | .hbm, ⟨55, _⟩ => ⟨S_, .i32⟩
  | .hbm, ⟨56, _⟩ => ⟨S19968, .i32⟩
  | .hbm, ⟨57, _⟩ => ⟨S19968, .i32⟩
  | .hbm, ⟨58, _⟩ => ⟨S19968, .i32⟩
  | .hbm, ⟨59, _⟩ => ⟨S19968x1, .i32⟩
  | .hbm, ⟨60, _⟩ => ⟨S1024x50000, .f32⟩
  | _, _ => ⟨S1024x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_2 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_3 : Ref sig .tc := ⟨.hbm, 50, rfl⟩
abbrev main_v30 : Ref sig .tc := ⟨.hbm, 51, rfl⟩
abbrev main_c : Ref sig .tc := ⟨.hbm, 52, rfl⟩
abbrev main_v31 : Ref sig .tc := ⟨.hbm, 53, rfl⟩
abbrev main_v32 : Ref sig .tc := ⟨.hbm, 54, rfl⟩
abbrev main_c_4 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩

abbrev nD : Nat := 1
abbrev τ : Topo := Topo.v7x

variable {F : FTy → Type} [FloatOps F]
-- ==== Proof.Trip.lean ====
/-
  One trip of a segment's loop as a program of its own: eight times the two masked scatters of a group, then eight
  times the loads of the group after it. The four segment loops of the kernel are this trip, each at its own offsets.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen
open Idealize.ShloMosaic Idealize.SL.Sem

variable {F : FTy → Type}

/-- Sixteen ids, one per lane. -/
abbrev IdV : Type := IVec S16 32

/-- Which lanes of a group go to the first half of a row: those whose id is below 25088. -/
def loMask (v : IdV) : IVec S16 1 := cmpi .slt v (broadcast S16 25088#32)
/-- Which lanes of a group go to the second half of a row. -/
def hiMask (v : IdV) : IVec S16 1 := cmpi .sge v (broadcast S16 25088#32)
/-- A group's positions in the first half: the id where the lane goes there, 0 elsewhere. -/
def loIdx (v : IdV) : IdV := select (loMask v) v (broadcast S16 0#32)
/-- A group's positions in the second half: the id less 25088 where the lane goes there, 0 elsewhere. -/
def hiIdx (v : IdV) : IdV := select (hiMask v) (subi v (broadcast S16 25088#32)) (broadcast S16 0#32)

variable [FloatOps F]

/-- What a group adds, lane by lane: `max (w * x + b) 0`. -/
def act (x w b : Vec F S16 .f32) : Vec F S16 .f32 :=
  maximumf (addf (mulf w x) b) (broadcast S16 (Scalar.ofBits .f32 0x00000000#32 : F .f32))

/-- What a trip hands the next: eight groups' ids, then their eight values. -/
abbrev Carry (F : FTy → Type) : Type :=
  Vec F S16 .i32 × Vec F S16 .i32 × Vec F S16 .i32 × Vec F S16 .i32 × Vec F S16 .i32 × Vec F S16 .i32 × Vec F S16 .i32
    × Vec F S16 .i32 × FVec F S16 .f32 × FVec F S16 .f32 × FVec F S16 .f32 × FVec F S16 .f32 × FVec F S16 .f32
    × FVec F S16 .f32 × FVec F S16 .f32 × FVec F S16 .f32

/-- The carry of eight groups. -/
def mkCarry (g : Fin 8 → IdV × Vec F S16 .f32) : Carry F :=
  ((g 0).1, (g 1).1, (g 2).1, (g 3).1, (g 4).1, (g 5).1, (g 6).1, (g 7).1,
    (g 0).2, (g 1).2, (g 2).2, (g 3).2, (g 4).2, (g 5).2, (g 6).2, (g 7).2)

section Prog

variable {L : grid0.Coords}

/-- The programs of the tile at `L`. -/
abbrev TP (F : FTy → Type) (L : grid0.Coords) (α : Type) : Type 1 :=
  Prog (TpuEff nD τ sig (Elt F) Λ₀ (.scVector ((L 0).castLE hcore0) ((L 1).castLE hsub0))) α

/-- A group's two masked scatter-adds, one into each half of the row. -/
def scatPair (bh0 bh1 : Memref sig .scVector .vmem S25088 .f32) (v : IdV) (x : Vec F S16 .f32) : TP F L PUnit := do
  have h0 : k0_chk1 (loIdx v) := (← Prog.lift (TpuEff.assume (k0_chk1 (loIdx v)) (k0_chk1.dec (loIdx v)))).down
  SparseCore.vectorStoreIdx bh0 ![loIdx v] x (loMask v) true (k0_idx1_inb (loIdx v) h0) (View.stores_vmem_bits_univ h_S25088 rfl)
  have h1 : k0_chk1 (hiIdx v) := (← Prog.lift (TpuEff.assume (k0_chk1 (hiIdx v)) (k0_chk1.dec (hiIdx v)))).down
  SparseCore.vectorStoreIdx bh1 ![hiIdx v] x (hiMask v) true (k0_idx1_inb (hiIdx v) h1) (View.stores_vmem_bits_univ h_S25088 rfl)

/-- The loads of a group at an offset: its ids, and its values from the weights, the biases and the row's splat. -/
def fetch (idr : Memref sig .scVector .vmem S19968 .i32) (wr br : Memref sig .scVector .vmem S19968 .f32) (x : Vec F S16 .f32)
    (off : Fin 1 → ℕ) (h : ∀ a, off a + S16.size a ≤ S19968.size a) : TP F L (IdV × Vec F S16 .f32) := do
  let u : Vec F S16 .i32 ← Prog.lift (.load idr (Rect.unit (s := S19968) off S16.size h).toLoadRect (View.loadsAt_vmem h_S16))
  let w : Vec F S16 .f32 ← Prog.lift (.load wr (Rect.unit (s := S19968) off S16.size h).toLoadRect (View.loadsAt_vmem h_S16))
  let b : Vec F S16 .f32 ← Prog.lift (.load br (Rect.unit (s := S19968) off S16.size h).toLoadRect (View.loadsAt_vmem h_S16))
  pure (u, act x w b)

/-- A trip: scatter the eight groups carried in, load the eight after them. -/
def trip (idr : Memref sig .scVector .vmem S19968 .i32) (wr br : Memref sig .scVector .vmem S19968 .f32)
    (bh0 bh1 : Memref sig .scVector .vmem S25088 .f32) (x : Vec F S16 .f32)
    (off : Fin 8 → Fin 1 → ℕ) (h : ∀ r a, off r a + S16.size a ≤ S19968.size a) : Carry F → TP F L (Carry F) :=
  fun (c0, c1, c2, c3, c4, c5, c6, c7, d0, d1, d2, d3, d4, d5, d6, d7) => do
    scatPair bh0 bh1 c0 d0
    scatPair bh0 bh1 c1 d1
    scatPair bh0 bh1 c2 d2
    scatPair bh0 bh1 c3 d3
    scatPair bh0 bh1 c4 d4
    scatPair bh0 bh1 c5 d5
    scatPair bh0 bh1 c6 d6
    scatPair bh0 bh1 c7 d7
    let g0 ← fetch idr wr br x (off 0) (h 0)
    let g1 ← fetch idr wr br x (off 1) (h 1)
    let g2 ← fetch idr wr br x (off 2) (h 2)
    let g3 ← fetch idr wr br x (off 3) (h 3)
    let g4 ← fetch idr wr br x (off 4) (h 4)
    let g5 ← fetch idr wr br x (off 5) (h 5)
    let g6 ← fetch idr wr br x (off 6) (h 6)
    let g7 ← fetch idr wr br x (off 7) (h 7)
    pure (g0.1, g1.1, g2.1, g3.1, g4.1, g5.1, g6.1, g7.1, g0.2, g1.2, g2.2, g3.2, g4.2, g5.2, g6.2, g7.2)

/-- A store of sixteen words, after a load of the same whose value is not used. -/
def zeroPair (bh : Memref sig .scVector .vmem S25088 .f32) (z : FVec F S16 .f32)
    (off : Fin 1 → ℕ) (h : ∀ a, off a + S16.size a ≤ S25088.size a) : TP F L PUnit := do
  let _ : Vec F S16 .f32 ← Prog.lift (.load bh (Rect.unit (s := S25088) off S16.size h).toLoadRect (View.loadsAt_vmem h_S16))
  Prog.lift (.store bh (Rect.unit (s := S25088) off S16.size h) z Finset.univ (View.stores_vmem_bits_univ h_S16 rfl) (.inl rfl))

/-- A trip of a clearing loop: sixteen such stores. -/
def zeroTrip (bh : Memref sig .scVector .vmem S25088 .f32) (z : FVec F S16 .f32)
    (off : Fin 16 → Fin 1 → ℕ) (h : ∀ r a, off r a + S16.size a ≤ S25088.size a) : TP F L Unit := do
  zeroPair bh z (off 0) (h 0)
  zeroPair bh z (off 1) (h 1)
  zeroPair bh z (off 2) (h 2)
  zeroPair bh z (off 3) (h 3)
  zeroPair bh z (off 4) (h 4)
  zeroPair bh z (off 5) (h 5)
  zeroPair bh z (off 6) (h 6)
  zeroPair bh z (off 7) (h 7)
  zeroPair bh z (off 8) (h 8)
  zeroPair bh z (off 9) (h 9)
  zeroPair bh z (off 10) (h 10)
  zeroPair bh z (off 11) (h 11)
  zeroPair bh z (off 12) (h 12)
  zeroPair bh z (off 13) (h 13)
  zeroPair bh z (off 14) (h 14)
  zeroPair bh z (off 15) (h 15)
  pure ()

end Prog

/-! ## The four loops' bodies -/

section Bodies

variable (i : grid0.Coords) (arg2 : Memref sig .scVector .hbm S19968 .i32) (harg2 : arg2.IsWhole)
  (arg3 : Memref sig .scVector .hbm S19968 .f32) (harg3 : arg3.IsWhole) (arg4 : Memref sig .scVector .hbm S19968 .f32) (harg4 : arg4.IsWhole)
  (arg5 : Memref sig .scVector .hbm S65536 .f32) (harg5 : arg5.IsWhole) (arg6 : Memref sig .scVector .hbm S51200000 .f32) (harg6 : arg6.IsWhole)
  (arg7 : Memref sig .scVector .vmem S19968 .i32) (harg7 : arg7.IsWhole) (arg8 : Memref sig .scVector .vmem S19968 .f32) (harg8 : arg8.IsWhole)
  (arg9 : Memref sig .scVector .vmem S19968 .f32) (harg9 : arg9.IsWhole) (arg10 : Memref sig .scVector .vmem S2048 .f32) (harg10 : arg10.IsWhole)
  (arg11 : Memref sig .scVector .vmem S25088 .f32) (harg11 : arg11.IsWhole) (arg12 : Memref sig .scVector .vmem S25088 .f32) (harg12 : arg12.IsWhole)
  (arg13 arg14 v13_r0 v13_r1 v13_r2 v13_r3 : DmaSems sig S_)
  (k0_t1 : Fin k0_t1_loop.trips) (z c1 c2 : BitVec 32) (x : Vec F S16 .f32) (a0 a1 a2 a3 a4 a5 a6 a7 : Vec F S16 .i32)
  (e0 e1 e2 e3 e4 e5 e6 e7 : FVec F S16 .f32) (w0 w1 : Vec F S16 .f32)

set_option maxRecDepth 65536 in
/-- The first segment's loop runs `trip` at its offsets. -/
theorem t4_eq :
    k0_t4_body i arg2 harg2 arg3 harg3 arg4 harg4 arg5 harg5 arg6 harg6 arg7 harg7 arg8 harg8 arg9 harg9 arg10 harg10 arg11 harg11
      arg12 harg12 arg13 arg14 v13_r0 v13_r1 v13_r2 v13_r3 k0_t1 z x a0 e0 a1 e1 a2 e2 a3 e3 a4 e4 a5 e5 a6 e6 a7 e7 c1 c2
      = fun t c => trip arg7 arg8 arg9 arg11 arg12 x (fun r => k0_off5 t (BitVec.ofNat 32 (16 * r.val))) (k0_off5_inb t) c := rfl

set_option maxRecDepth 65536 in
/-- The second segment's loop runs `trip` at its offsets. -/
theorem t5_eq :
    k0_t5_body i arg2 harg2 arg3 harg3 arg4 harg4 arg5 harg5 arg6 harg6 arg7 harg7 arg8 harg8 arg9 harg9 arg10 harg10 arg11 harg11
      arg12 harg12 arg13 arg14 v13_r0 v13_r1 v13_r2 v13_r3 k0_t1 z x a0 e0 a1 e1 a2 e2 a3 e3 a4 w0 w1
      = fun t c => trip arg7 arg8 arg9 arg11 arg12 x (fun r => k0_off6 t (BitVec.ofNat 32 (16 * r.val))) (k0_off6_inb t) c := rfl

set_option maxRecDepth 65536 in
/-- The third segment's loop runs `trip` at its offsets. -/
theorem t6_eq :
    k0_t6_body i arg2 harg2 arg3 harg3 arg4 harg4 arg5 harg5 arg6 harg6 arg7 harg7 arg8 harg8 arg9 harg9 arg10 harg10 arg11 harg11
      arg12 harg12 arg13 arg14 v13_r0 v13_r1 v13_r2 v13_r3 k0_t1 z x a0 e0 a1 e1 a2 e2 a3 e3 a4 e4 a5 e5 a6 w0
      = fun t c => trip arg7 arg8 arg9 arg11 arg12 x (fun r => k0_off7 t (BitVec.ofNat 32 (16 * r.val))) (k0_off7_inb t) c := rfl

set_option maxRecDepth 65536 in
/-- The fourth segment's loop runs `trip` at its offsets. -/
theorem t7_eq :
    k0_t7_body i arg2 harg2 arg3 harg3 arg4 harg4 arg5 harg5 arg6 harg6 arg7 harg7 arg8 harg8 arg9 harg9 arg10 harg10 arg11 harg11
      arg12 harg12 arg13 arg14 v13_r0 v13_r1 v13_r2 v13_r3 x 0#32
      = fun t c => trip arg7 arg8 arg9 arg11 arg12 x (fun r => k0_off8 t (BitVec.ofNat 32 (16 * r.val))) (k0_off8_inb t) c := rfl

set_option maxRecDepth 65536 in
/-- The loop that clears the first half's buffer runs `zeroTrip` at its offsets. -/
theorem t2_eq :
    k0_t2_body i arg2 harg2 arg3 harg3 arg4 harg4 arg5 harg5 arg6 harg6 arg7 harg7 arg8 harg8 arg9 harg9 arg10 harg10 arg11 harg11
      arg12 harg12 arg13 arg14 v13_r0 v13_r1 v13_r2 v13_r3 z e0 c1 c2 k0_t1
      = fun t _ => zeroTrip arg11 e0 (fun r => k0_off2 t (BitVec.ofNat 32 (16 * r.val))) (k0_off2_inb t) := rfl

set_option maxRecDepth 65536 in
/-- The loop that clears the second half's buffer runs `zeroTrip` at its offsets. -/
theorem t3_eq :
    k0_t3_body i arg2 harg2 arg3 harg3 arg4 harg4 arg5 harg5 arg6 harg6 arg7 harg7 arg8 harg8 arg9 harg9 arg10 harg10 arg11 harg11
      arg12 harg12 arg13 arg14 v13_r0 v13_r1 v13_r2 v13_r3 z e0 c1 c2 k0_t1
      = fun t _ => zeroTrip arg12 e0 (fun r => k0_off3 t (BitVec.ofNat 32 (16 * r.val))) (k0_off3_inb t) := rfl

end Bodies

end Cert.Proof

end
-- ==== Proof.Row.lean ====
/-
  One row of a tile's work as a program of its own: the two waits for the row before, the two clearing loops, the four
  segments, the two copies out. The kernel's row loop runs it.
-/
module

public import proofs.«01_k».proof.Proof.Trip

@[expose] public section

noncomputable section

namespace Cert.Proof

open Cert.KernelIdeal Cert.KernelIdeal.Gen
open Idealize.ShloMosaic Idealize.SL.Sem

variable {F : FTy → Type} [FloatOps F]

section Prog

variable {L : grid0.Coords}

/-- A segment: the loads of its first eight groups, then its loop of trips. -/
def seg (idr : Memref sig .scVector .vmem S19968 .i32) (wr br : Memref sig .scVector .vmem S19968 .f32)
    (bh0 bh1 : Memref sig .scVector .vmem S25088 .f32) (x : Vec F S16 .f32) (lp : Scf.Loop 32) (ok : lp.OK) (o : ℕ)
    (h0 : ∀ r : Fin 8, ∀ a, (![o + 16 * r.val] : Fin 1 → ℕ) a + S16.size a ≤ S19968.size a)
    (off : Fin lp.trips → Fin 8 → Fin 1 → ℕ) (h : ∀ t r a, off t r a + S16.size a ≤ S19968.size a) : TP F L PUnit := do
  let g0 ← fetch idr wr br x ![o + 16 * (0 : Fin 8).val] (h0 0)
  let g1 ← fetch idr wr br x ![o + 16 * (1 : Fin 8).val] (h0 1)
  let g2 ← fetch idr wr br x ![o + 16 * (2 : Fin 8).val] (h0 2)
  let g3 ← fetch idr wr br x ![o + 16 * (3 : Fin 8).val] (h0 3)
  let g4 ← fetch idr wr br x ![o + 16 * (4 : Fin 8).val] (h0 4)
  let g5 ← fetch idr wr br x ![o + 16 * (5 : Fin 8).val] (h0 5)
  let g6 ← fetch idr wr br x ![o + 16 * (6 : Fin 8).val] (h0 6)
  let g7 ← fetch idr wr br x ![o + 16 * (7 : Fin 8).val] (h0 7)
  let _ ← Scf.Loop.for lp ok (g0.1, g1.1, g2.1, g3.1, g4.1, g5.1, g6.1, g7.1, g0.2, g1.2, g2.2, g3.2, g4.2, g5.2, g6.2, g7.2)
    (fun t (c : Carry F) => trip idr wr br bh0 bh1 x (off t) (h t) c)
  pure ⟨⟩

theorem seg_inb (o : ℕ) (ho : o + 128 ≤ 19968) (r : Fin 8) (a : Fin 1) :
    (![o + 16 * r.val] : Fin 1 → ℕ) a + S16.size a ≤ S19968.size a := by
  have := r.isLt
  match a with
  | 0 => show o + 16 * r.val + 16 ≤ 19968; omega

/-- The row's splat for a segment. -/
def xload (xr : Memref sig .scVector .vmem S2048 .f32) (k0_t1 : Fin k0_t1_loop.trips) (r : Fin 4) : TP F L (Vec F S16 .f32) :=
  Prog.lift (.load xr (Rect.unit (s := S2048) (k0_off4 k0_t1 (BitVec.ofNat 32 (16 * r.val))) S16.size (k0_off4_inb k0_t1 r)).toLoadRect
    (View.loadsAt_vmem h_S16))

/-- The waits for the copies of the row before. -/
def waits (out : Memref sig .scVector .hbm S51200000 .f32) (bh0 bh1 : Memref sig .scVector .vmem S25088 .f32) (os0 os1 : DmaSems sig S_) :
    TP F L PUnit := do
  Prog.lift (.waitDma2 os0.sem (bh0.slice (Rect.unit (s := S25088) ![0] S25088.size inb_S25088_S25088_0) (fun _ => rfl))
    (out.slice (Rect.unit (s := S51200000) ![0] S25088.size inb_S51200000_S25088_0) (fun _ => rfl)) (View.wordExact_bits rfl) (View.wordExact_bits rfl))
  Prog.lift (.waitDma2 os1.sem (bh1.slice (Rect.unit (s := S25088) ![0] S24912.size inb_S25088_S24912_0) (fun _ => rfl))
    (out.slice (Rect.unit (s := S51200000) ![0] S24912.size inb_S51200000_S24912_0) (fun _ => rfl)) (View.wordExact_bits rfl) (View.wordExact_bits rfl))

/-- The copies out of row `r`. -/
def copies (out : Memref sig .scVector .hbm S51200000 .f32) (bh0 bh1 : Memref sig .scVector .vmem S25088 .f32) (os0 os1 : DmaSems sig S_)
    (r : Fin k0_t1_loop.trips) : TP F L PUnit := do
  Prog.lift (.enqueueDma (bh0.slice (Rect.unit (s := S25088) ![0] S25088.size inb_S25088_S25088_0) (fun _ => rfl))
    (.here (out.slice (Rect.unit (s := S51200000) (k0_off9 L r) S25088.size (k0_off9_inb L r)) (fun _ => rfl)))
    (.dma os0.sem) (View.wordExact_bits rfl) (View.wordExact_bits rfl) ⟨Or.inl rfl, trivial⟩)
  Prog.lift (.enqueueDma (bh1.slice (Rect.unit (s := S25088) ![0] S24912.size inb_S25088_S24912_0) (fun _ => rfl))
    (.here (out.slice (Rect.unit (s := S51200000) (k0_off10 L r) S24912.size (k0_off10_inb L r)) (fun _ => rfl)))
    (.dma os1.sem) (View.wordExact_bits rfl) (View.wordExact_bits rfl) ⟨Or.inl rfl, trivial⟩)

/-- A row. -/
def rowProg (out : Memref sig .scVector .hbm S51200000 .f32) (idr : Memref sig .scVector .vmem S19968 .i32)
    (wr br : Memref sig .scVector .vmem S19968 .f32) (xr : Memref sig .scVector .vmem S2048 .f32)
    (bh0 bh1 : Memref sig .scVector .vmem S25088 .f32) (os0 os1 : DmaSems sig S_) (r : Fin k0_t1_loop.trips) : TP F L Unit := do
  if _h : Scalar.cmpi .ne (Scalar.extui (Scalar.cmpi .sgt (Scf.iv 0#32 1#32 r) 0#32) : BitVec 32) 0#32 = 1#1 then waits out bh0 bh1 os0 os1
  else pure ⟨⟩
  Scf.Loop.for k0_t2_loop k0_t2_ok (⟨⟩ : Unit)
    (fun t _ => zeroTrip bh0 (k0_pay1 (F := F)) (fun s => k0_off2 t (BitVec.ofNat 32 (16 * s.val))) (k0_off2_inb t))
  Scf.Loop.for k0_t3_loop k0_t3_ok (⟨⟩ : Unit)
    (fun t _ => zeroTrip bh1 (k0_pay1 (F := F)) (fun s => k0_off3 t (BitVec.ofNat 32 (16 * s.val))) (k0_off3_inb t))
  let x0 ← xload xr r 0
  seg idr wr br bh0 bh1 x0 k0_t4_loop k0_t4_ok 0 (seg_inb 0 (by decide)) (fun t s => k0_off5 t (BitVec.ofNat 32 (16 * s.val))) k0_off5_inb
  let x1 ← xload xr r 1
  seg idr wr br bh0 bh1 x1 k0_t5_loop k0_t5_ok 12800 (seg_inb 12800 (by decide)) (fun t s => k0_off6 t (BitVec.ofNat 32 (16 * s.val))) k0_off6_inb
  let x2 ← xload xr r 2
  seg idr wr br bh0 bh1 x2 k0_t6_loop k0_t6_ok 14848 (seg_inb 14848 (by decide)) (fun t s => k0_off7 t (BitVec.ofNat 32 (16 * s.val))) k0_off7_inb
  let x3 ← xload xr r 3
  seg idr wr br bh0 bh1 x3 k0_t7_loop k0_t7_ok 18944 (seg_inb 18944 (by decide)) (fun t s => k0_off8 t (BitVec.ofNat 32 (16 * s.val))) k0_off8_inb
  copies out bh0 bh1 os0 os1 r

end Prog

section Bodies

variable (i : grid0.Coords) (arg2 : Memref sig .scVector .hbm S19968 .i32) (harg2 : arg2.IsWhole)
  (arg3 : Memref sig .scVector .hbm S19968 .f32) (harg3 : arg3.IsWhole) (arg4 : Memref sig .scVector .hbm S19968 .f32) (harg4 : arg4.IsWhole)
  (arg5 : Memref sig .scVector .hbm S65536 .f32) (harg5 : arg5.IsWhole) (arg6 : Memref sig .scVector .hbm S51200000 .f32) (harg6 : arg6.IsWhole)
  (arg7 : Memref sig .scVector .vmem S19968 .i32) (harg7 : arg7.IsWhole) (arg8 : Memref sig .scVector .vmem S19968 .f32) (harg8 : arg8.IsWhole)
  (arg9 : Memref sig .scVector .vmem S19968 .f32) (harg9 : arg9.IsWhole) (arg10 : Memref sig .scVector .vmem S2048 .f32) (harg10 : arg10.IsWhole)
  (arg11 : Memref sig .scVector .vmem S25088 .f32) (harg11 : arg11.IsWhole) (arg12 : Memref sig .scVector .vmem S25088 .f32) (harg12 : arg12.IsWhole)
  (arg13 arg14 v13_r0 v13_r1 v13_r2 v13_r3 : DmaSems sig S_) (v1 : BitVec 32)

set_option maxRecDepth 65536 in
/-- The kernel's row loop runs `rowProg`. -/
theorem t1_eq :
    k0_t1_body (F := F) i arg2 harg2 arg3 harg3 arg4 harg4 arg5 harg5 arg6 harg6 arg7 harg7 arg8 harg8 arg9 harg9 arg10 harg10 arg11 harg11
      arg12 harg12 arg13 arg14 v13_r0 v13_r1 v13_r2 v13_r3 v1
      = fun r _ => rowProg arg6 arg7 arg8 arg9 arg10 arg11 arg12 arg13 arg14 r := by
  funext r _
  by_cases hc : Scalar.cmpi .ne (Scalar.extui (Scalar.cmpi .sgt (Scf.iv 0#32 1#32 r) 0#32) : BitVec 32) 0#32 = 1#1
  all_goals
  simp only [hc, ↓reduceDIte, k0_t1_body, k0_part23_eq_skeleton, k0_part24_eq_skeleton, k0_part25_eq_skeleton, k0_part26_eq_skeleton, k0_part27_eq_skeleton,
    k0_part28_eq_skeleton, k0_part29_eq_skeleton, k0_part23_skel, k0_part24_skel, k0_part25_skel, k0_part26_skel, k0_part27_skel,
    k0_part28_skel, k0_part29_skel, t2_eq, t3_eq, t4_eq, t5_eq, t6_eq, t7_eq, rowProg, seg, xload, fetch, bind_assoc, pure_bind]
  rfl

end Bodies

end Cert.Proof

end
-- ==== Proof.Spec.lean ====
/-
  What the kernel computes, as plain functions over any float values: the groups of sixteen entries a row takes in
  order, the two halves of a row after so many groups, and the whole output array.
-/
module

public import proofs.«01_k».proof.Proof.Row
public import Idealize.ShloMosaic.Lib.WordCmp

@[expose] public section

noncomputable section

namespace Cert.Proof

open Cert.KernelIdeal Cert.KernelIdeal.Gen
open Idealize.ShloMosaic Idealize.SL.Sem

variable {F : FTy → Type}

/-! ## The masks and positions of a group in range -/

/-- Every lane's id names a column of the output. -/
def InRange (v : IdV) : Prop := ∀ l, (v l).toNat < 50000

theorem loMask_iff {v : IdV} (hv : InRange v) (l : S16.Idx) : loMask v l = 1 ↔ (v l).toNat < 25088 := by
  have h := hv l
  have hw : v l = BitVec.ofNat 32 (v l).toNat := by simp
  show IntOp.cmpi .slt (v l) (BitVec.ofNat 32 25088) = 1 ↔ _
  rw [hw]
  exact (WordCmp.cmpi_slt_ofNat_eq_one_iff (w := 32) (by omega) (by decide)).trans (by simp)

theorem hiMask_iff {v : IdV} (hv : InRange v) (l : S16.Idx) : hiMask v l = 1 ↔ 25088 ≤ (v l).toNat := by
  have h := hv l
  have hw : v l = BitVec.ofNat 32 (v l).toNat := by simp
  show IntOp.cmpi .sge (v l) (BitVec.ofNat 32 25088) = 1 ↔ _
  rw [hw]
  exact (WordCmp.cmpi_sge_ofNat_eq_one_iff (w := 32) (by omega) (by decide)).trans (by simp)

theorem loIdx_toNat {v : IdV} (hv : InRange v) (l : S16.Idx) :
    (loIdx v l).toNat = if (v l).toNat < 25088 then (v l).toNat else 0 := by
  show (if loMask v l = 1 then v l else 0#32).toNat = _
  by_cases h : (v l).toNat < 25088
  · rw [if_pos ((loMask_iff hv l).2 h), if_pos h]
  · rw [if_neg (fun hh => h ((loMask_iff hv l).1 hh)), if_neg h]; rfl

theorem hiIdx_toNat {v : IdV} (hv : InRange v) (l : S16.Idx) :
    (hiIdx v l).toNat = if 25088 ≤ (v l).toNat then (v l).toNat - 25088 else 0 := by
  show (if hiMask v l = 1 then v l - 25088#32 else 0#32).toNat = _
  by_cases h : 25088 ≤ (v l).toNat
  · rw [if_pos ((hiMask_iff hv l).2 h), if_pos h, BitVec.toNat_sub_of_le (by simpa [BitVec.le_def] using h)]; rfl
  · rw [if_neg (fun hh => h ((hiMask_iff hv l).1 hh)), if_neg h]; rfl

/-- The positions in the first half are inside its buffer. -/
theorem loIdx_chk {v : IdV} (hv : InRange v) : k0_chk1 (loIdx v) := by
  intro a l
  have ha : a = 0 := Fin.eq_zero a
  subst ha
  show (loIdx v l).toNat < 25088
  rw [loIdx_toNat hv]; split <;> omega

/-- The positions in the second half are inside its buffer, and inside the 24912 words that are copied out. -/
theorem hiIdx_chk {v : IdV} (hv : InRange v) : k0_chk1 (hiIdx v) := by
  intro a l
  have ha : a = 0 := Fin.eq_zero a
  subst ha
  have := hv l
  show (hiIdx v l).toNat < 25088
  rw [hiIdx_toNat hv]; split <;> omega

/-! ## Groups -/

/-- A group: sixteen ids and the sixteen values they add. -/
abbrev Grp (F : FTy → Type) : Type := IdV × Vec F S16 .f32

/-- Sixteen consecutive entries of a table from `o` on. -/
def win {e : EltTy} (o : ℕ) (f : Vec F S19968 e) : Vec F S16 e :=
  fun l => f (Shape.ofLane (d := ![19968]) ⟨(o + (l 0).val) % 19968, Nat.mod_lt _ (by decide)⟩)

/-- Sixteen consecutive entries of the splat array from `o` on. -/
def xwin (o : ℕ) (f : Vec F S65536 .f32) : Vec F S16 .f32 :=
  fun l => f (Shape.ofLane (d := ![65536]) ⟨(o + (l 0).val) % 65536, Nat.mod_lt _ (by decide)⟩)

/-- Which of the four segments group `t` lies in. -/
def segOf (t : ℕ) : Fin 4 := if t < 800 then 0 else if t < 928 then 1 else if t < 1184 then 2 else 3

variable [FloatOps F]

/-- The groups of a row: `xs` the row's splat per segment. -/
def grp (fi : Vec F S19968 .i32) (fw fb : Vec F S19968 .f32) (xs : Fin 4 → Vec F S16 .f32) (t : ℕ) : Grp F :=
  (win (16 * t) fi, act (xs (segOf t)) (win (16 * t) fw) (win (16 * t) fb))

/-- The splats of row `b`. -/
def splat (fx : Vec F S65536 .f32) (b : ℕ) (s : Fin 4) : Vec F S16 .f32 := xwin (64 * b + 16 * s.val) fx

/-! ## The two halves of a row -/

/-- Sixteen zeros, broadcast. -/
abbrev zero16 : FVec F S16 .f32 := k0_pay1

/-- A cleared half. -/
def zeros : Vec F S25088 .f32 := fun _ => Scalar.ofBits .f32 0x00000000#32

/-- The first half after one more group. -/
def add0 (a : Vec F S25088 .f32) (g : Grp F) : Vec F S25088 .f32 :=
  open Classical in
  if h : k0_chk1 (loIdx g.1) then storeIdx a ![loIdx g.1] g.2 (loMask g.1) true (k0_idx1_inb _ h) else a

/-- The second half after one more group. -/
def add1 (a : Vec F S25088 .f32) (g : Grp F) : Vec F S25088 .f32 :=
  open Classical in
  if h : k0_chk1 (hiIdx g.1) then storeIdx a ![hiIdx g.1] g.2 (hiMask g.1) true (k0_idx1_inb _ h) else a

/-- The first half after the groups below `t`. -/
def acc0 (G : ℕ → Grp F) : ℕ → Vec F S25088 .f32
  | 0 => zeros
  | t + 1 => add0 (acc0 G t) (G t)

/-- The second half after the groups below `t`. -/
def acc1 (G : ℕ → Grp F) : ℕ → Vec F S25088 .f32
  | 0 => zeros
  | t + 1 => add1 (acc1 G t) (G t)

/-! ## The output array -/

/-- A word of a row's first half. -/
def at25 (a : Vec F S25088 .f32) (j : ℕ) : F .f32 := a (Shape.ofLane (d := ![25088]) ⟨j % 25088, Nat.mod_lt _ (by decide)⟩)

/-- Row `b` at column `j`, from the row's groups. -/
def rowVal (G : ℕ → Grp F) (j : ℕ) : F .f32 :=
  if j < 25088 then at25 (acc0 G 1248) j else at25 (acc1 G 1248) (j - 25088)

/-- The output array as the kernel lays it out: rows of 50000 words one after another. -/
def outVal (fi : Vec F S19968 .i32) (fw fb : Vec F S19968 .f32) (fx : Vec F S65536 .f32) : Vec F S51200000 .f32 :=
  fun p => rowVal (grp fi fw fb (splat fx ((p 0).val / 50000))) ((p 0).val % 50000)

end Cert.Proof

end
-- ==== Proof.Setup.lean ====
/-
  The kernel as the launch theorem sees it: the configuration and its facts, the resource algebra, the arrays and a
  tile's scratch as memrefs and as locations.
-/
module

public import proofs.«01_k».proof.Proof.Spec

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

/-- The machine's resources for this kernel. -/
abbrev MM (F : FTy → Type) : Type := MT nD τ sig (HIx 1) (Elt F) ℕ UU ℕ

local notation "𝕄" => MT nD τ sig (HIx 1) (Elt F) ℕ UU ℕ

abbrev EH : Emb UH (MT nD τ sig (HIx 1) (Elt F) ℕ UU ℕ) := embL

/-! ## The arrays and a tile's scratch -/

abbrev idM : Memref sig .scVector .hbm S19968 .i32 := Memref.whole main_v6_scv
abbrev wM : Memref sig .scVector .hbm S19968 .f32 := Memref.whole main_v4_scv
abbrev bM : Memref sig .scVector .hbm S19968 .f32 := Memref.whole main_v5_scv
abbrev xM : Memref sig .scVector .hbm S65536 .f32 := Memref.whole main_v10_scv
abbrev oM : Memref sig .scVector .hbm S51200000 .f32 := Memref.whole main_v11_scv
abbrev sI : Memref sig .scVector .vmem S19968 .i32 := Memref.whole cc0_scratch0
abbrev sW : Memref sig .scVector .vmem S19968 .f32 := Memref.whole cc0_scratch1
abbrev sB : Memref sig .scVector .vmem S19968 .f32 := Memref.whole cc0_scratch2
abbrev sX : Memref sig .scVector .vmem S2048 .f32 := Memref.whole cc0_scratch3
abbrev h0M : Memref sig .scVector .vmem S25088 .f32 := Memref.whole cc0_scratch4
abbrev h1M : Memref sig .scVector .vmem S25088 .f32 := Memref.whole cc0_scratch5

abbrev iLoc (d : Dev nD) : Loc nD τ sig := (SparseCore.T d).loc main_v6
abbrev wLoc (d : Dev nD) : Loc nD τ sig := (SparseCore.T d).loc main_v4
abbrev bLoc (d : Dev nD) : Loc nD τ sig := (SparseCore.T d).loc main_v5
abbrev xLoc (d : Dev nD) : Loc nD τ sig := (SparseCore.T d).loc main_v10
abbrev oLoc (d : Dev nD) : Loc nD τ sig := (SparseCore.T d).loc main_v11

abbrev cV (L : grid0.Coords) : Fin τ.nSC := (L 0).castLE hcore0
abbrev jV (L : grid0.Coords) : Fin τ.nSub := (L 1).castLE hsub0

/-- The tile at `L`. -/
abbrev thr (d : Dev nD) (L : grid0.Coords) : Thread nD τ := V d (cV L) (jV L)

end Cert.Proof

end
-- ==== Proof.Steps.lean ====
/-
  The steps of a trip: a group's two scatter-adds, the loads of a group, sixteen words cleared — each from what the
  buffers hold to what they hold after.
-/
module

public import proofs.«01_k».proof.Proof.Setup

@[expose] public section

noncomputable section

namespace Cert.Proof

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (Idealize.ShloMosaic.SparseCore.Cfg.HIx 1) (Elt F) ℕ UU ℕ

variable (d : Dev nD) (L : grid0.Coords)

/-- A half's buffer of the tile, whole. -/
abbrev h0Pts (f : Vec F S25088 .f32) : sProp 𝕄 := h0M.view.loc (thr d L) ↦{fullShare} f
abbrev h1Pts (f : Vec F S25088 .f32) : sProp 𝕄 := h1M.view.loc (thr d L) ↦{fullShare} f
/-- The tile's copies of the tables, and its splats. -/
abbrev siPts (f : Vec F S19968 .i32) : sProp 𝕄 := sI.view.loc (thr d L) ↦{fullShare} f
abbrev swPts (f : Vec F S19968 .f32) : sProp 𝕄 := sW.view.loc (thr d L) ↦{fullShare} f
abbrev sbPts (f : Vec F S19968 .f32) : sProp 𝕄 := sB.view.loc (thr d L) ↦{fullShare} f
abbrev sxPts (f : Vec F S2048 .f32) : sProp 𝕄 := sX.view.loc (thr d L) ↦{fullShare} f

/-- Running a program of the tile. -/
abbrev WP {α : Type} (p : TP F L α) (Q : α → sProp 𝕄) : sProp 𝕄 :=
  wp frame (wpE (defs₀ (F := F)) 𝒱₀ (thr d L) none) Set.univ p Q

variable {d L}

/-- A scatter-add into the first half. -/
theorem wp_scat0 {α : Type} {v : IdV} {x : Vec F S16 .f32} {mk : IVec S16 1} {hc : ∀ a l, ((![v] : Fin 1 → IVec S16 32) a l).toNat < S25088.size a}
    {hs : (h0M.access (.whole S25088)).Stores Finset.univ} {k : PUnit → TP F L α} {Q : α → sProp 𝕄} (a : Vec F S25088 .f32) :
    h0Pts d L a ⊢ iprop((h0Pts d L (storeIdx a ![v] x mk true hc) -∗ WP d L (k ⟨⟩) Q)
      -∗ WP d L (SparseCore.vectorStoreIdx h0M ![v] x mk true hc hs >>= k) Q) := by
  have h := SparseCore.wp_vectorStoreIdx (defs := defs₀ (F := F)) 𝒱₀ (thr d L) none Set.univ (Q := Q) (base := h0M) (idxs := ![v]) (v := x)
    (mask := mk) (add := true) (h := hc) (hs := hs) (k := k) (f := a)
  have e : (h0M.access (Rect.whole S25088)).set = Finset.univ := Memref.set_access_whole cc0_scratch4
  have er : (h0M.access (Rect.whole S25088)).read (Elt F) a = a := Memref.read_access_whole (Elt F) cc0_scratch4 a
  have ew : ∀ w : Vec F S25088 .f32, (h0M.access (Rect.whole S25088)).write (Elt F) a w Finset.univ = w :=
    fun w => Memref.write_access_whole_univ (Elt F) cc0_scratch4 a w
  rw [er, ew, e] at h
  exact h

/-- A scatter-add into the second half. -/
theorem wp_scat1 {α : Type} {v : IdV} {x : Vec F S16 .f32} {mk : IVec S16 1} {hc : ∀ a l, ((![v] : Fin 1 → IVec S16 32) a l).toNat < S25088.size a}
    {hs : (h1M.access (.whole S25088)).Stores Finset.univ} {k : PUnit → TP F L α} {Q : α → sProp 𝕄} (a : Vec F S25088 .f32) :
    h1Pts d L a ⊢ iprop((h1Pts d L (storeIdx a ![v] x mk true hc) -∗ WP d L (k ⟨⟩) Q)
      -∗ WP d L (SparseCore.vectorStoreIdx h1M ![v] x mk true hc hs >>= k) Q) := by
  have h := SparseCore.wp_vectorStoreIdx (defs := defs₀ (F := F)) 𝒱₀ (thr d L) none Set.univ (Q := Q) (base := h1M) (idxs := ![v]) (v := x)
    (mask := mk) (add := true) (h := hc) (hs := hs) (k := k) (f := a)
  have e : (h1M.access (Rect.whole S25088)).set = Finset.univ := Memref.set_access_whole cc0_scratch5
  have er : (h1M.access (Rect.whole S25088)).read (Elt F) a = a := Memref.read_access_whole (Elt F) cc0_scratch5 a
  have ew : ∀ w : Vec F S25088 .f32, (h1M.access (Rect.whole S25088)).write (Elt F) a w Finset.univ = w :=
    fun w => Memref.write_access_whole_univ (Elt F) cc0_scratch5 a w
  rw [er, ew, e] at h
  exact h

/-- A group's two scatter-adds take both halves one group further. -/
theorem wp_scatPair {α : Type} (v : IdV) (x : Vec F S16 .f32) (hv : InRange v) {k : PUnit → TP F L α} {Q : α → sProp 𝕄}
    (a0 a1 : Vec F S25088 .f32) :
    iprop(h0Pts d L a0 ∗ h1Pts d L a1)
      ⊢ iprop((iprop(h0Pts d L (add0 a0 (v, x)) ∗ h1Pts d L (add1 a1 (v, x))) -∗ WP d L (k ⟨⟩) Q)
        -∗ WP d L (scatPair h0M h1M v x >>= k) Q) := by
  simp only [scatPair, bind_assoc, Prog.bind_lift, Prog.bind_op]
  iintro ⟨H0, H1⟩ Hk
  iapply (wp_assume 𝒱₀ (thr d L) none Set.univ (loIdx_chk hv))
  iapply (wp_scat0 a0) $$ H0
  iintro H0
  iapply (wp_assume 𝒱₀ (thr d L) none Set.univ (hiIdx_chk hv))
  iapply (wp_scat1 a1) $$ H1
  iintro H1
  iapply Hk
  unfold add0 add1
  rw [dif_pos (loIdx_chk hv), dif_pos (hiIdx_chk hv)]
  isplitl [H0] <;> iassumption

/-- The entry a load of sixteen entries reads for a lane. -/
theorem rect_win {off : Fin 1 → ℕ} {o : ℕ} (ho : off = ![o]) (hb : o + 16 ≤ 19968) (h : ∀ a, off a + S16.size a ≤ S19968.size a) (l : S16.Idx) :
    (Rect.unit (s := S19968) off S16.size h).toLoadRect.idx l = Shape.ofLane (d := ![19968]) ⟨(o + (l 0).val) % 19968, Nat.mod_lt _ (by decide)⟩ := by
  subst ho
  funext a
  have ha : a = 0 := Fin.eq_zero a
  subst ha
  apply Fin.ext
  have hl : (l 0).val < 16 := (l 0).isLt
  show o + 1 * (l 0).val = (o + (l 0).val) % 19968
  rw [Nat.mod_eq_of_lt (by omega), Nat.one_mul]

/-- The loads of a group. -/
theorem wp_fetch {α : Type} (x : Vec F S16 .f32) {off : Fin 1 → ℕ} {o : ℕ} (ho : off = ![o]) (hb : o + 16 ≤ 19968)
    (h : ∀ a, off a + S16.size a ≤ S19968.size a) {k : Grp F → TP F L α} {Q : α → sProp 𝕄}
    (fi : Vec F S19968 .i32) (fw fb : Vec F S19968 .f32) :
    iprop(siPts d L fi ∗ swPts d L fw ∗ sbPts d L fb)
      ⊢ iprop((iprop(siPts d L fi ∗ swPts d L fw ∗ sbPts d L fb) -∗ WP d L (k (win o fi, act x (win o fw) (win o fb))) Q)
        -∗ WP d L (fetch sI sW sB x off h >>= k) Q) := by
  have ei : sI.view.readAt (Elt F) (Rect.unit (s := S19968) off S16.size h).toLoadRect fi = win o fi :=
    funext fun l => congrArg fi (rect_win ho hb h l)
  have ew : sW.view.readAt (Elt F) (Rect.unit (s := S19968) off S16.size h).toLoadRect fw = win o fw :=
    funext fun l => congrArg fw (rect_win ho hb h l)
  have eb : sB.view.readAt (Elt F) (Rect.unit (s := S19968) off S16.size h).toLoadRect fb = win o fb :=
    funext fun l => congrArg fb (rect_win ho hb h l)
  simp only [fetch, bind_assoc, Prog.bind_lift, pure_bind]
  iintro ⟨Hi, Hw, Hb⟩ Hk
  iapply (wp_load 𝒱₀ (thr d L) none Set.univ (m := sI) (q := fullShare) (f := fi) (Finset.subset_univ _)) $$ Hi
  iintro Hi
  iapply (wp_load 𝒱₀ (thr d L) none Set.univ (m := sW) (q := fullShare) (f := fw) (Finset.subset_univ _)) $$ Hw
  iintro Hw
  iapply (wp_load 𝒱₀ (thr d L) none Set.univ (m := sB) (q := fullShare) (f := fb) (Finset.subset_univ _)) $$ Hb
  iintro Hb
  rw [ei, ew, eb]
  iapply Hk
  isplitl [Hi]; · iexact Hi
  isplitl [Hw] <;> iassumption

/-! ## Clearing -/

/-- The words below `n` are zero. -/
def ZeroBelow (n : ℕ) (f : Vec F S25088 .f32) : Prop := ∀ j : S25088.Idx, (j 0).val < n → f j = Scalar.ofBits .f32 0x00000000#32

/-- A store of sixteen zeros at `o` clears what lies below `o + 16`, what lies below `o` being clear. -/
theorem zeroBelow_write (M : Memref sig .scVector .vmem S25088 .f32) {off : Fin 1 → ℕ} {o : ℕ} (ho : off = ![o])
    (h : ∀ a, off a + S16.size a ≤ S25088.size a) (f : M.view.ty.Contents (Elt F)) (hf : ZeroBelow (F := F) o (M.view.read (Elt F) f)) :
    ZeroBelow (F := F) (o + 16) (M.view.read (Elt F)
      ((M.view.slice (Rect.unit (s := S25088) off S16.size h)).write (Elt F) f zero16 Finset.univ)) := by
  intro j hj
  subst ho
  by_cases hjo : (j 0).val < o
  · rw [View.read_slice_write_of_not_mem]
    · exact hf j hjo
    · intro hm
      obtain ⟨x, -, hx⟩ := Finset.mem_map.mp hm
      have := congrArg (fun i : S25088.Idx => (i 0).val) hx
      simp only [Rect.emb_apply] at this
      have h2 : o + 1 * (x 0).val = (j 0).val := this
      omega
  · have hx : j = (Rect.unit (s := S25088) ![o] S16.size h).emb (Shape.ofLane (d := ![16]) ⟨(j 0).val - o, by show _ < 16; omega⟩) := by
      funext a
      have ha : a = 0 := Fin.eq_zero a
      subst ha
      apply Fin.ext
      show (j 0).val = o + 1 * ((j 0).val - o)
      omega
    rw [hx, View.read_slice_write_emb _ _ _ (Finset.mem_univ _)]
    rfl

/-- Sixteen words more are cleared. -/
theorem wp_zeroPair {α : Type} (M : Memref sig .scVector .vmem S25088 .f32) {off : Fin 1 → ℕ} {o : ℕ} (ho : off = ![o])
    (h : ∀ a, off a + S16.size a ≤ S25088.size a) {k : PUnit → TP F L α} {Q : α → sProp 𝕄}
    (f : Buf (Elt F) (M.view.loc (thr d L))) (hf : ZeroBelow (F := F) o (M.view.read (Elt F) f)) :
    (M.view.loc (thr d L) ↦{fullShare} f)
      ⊢ iprop((∀ f' : Buf (Elt F) (M.view.loc (thr d L)), iprop(⌜ZeroBelow (F := F) (o + 16) (M.view.read (Elt F) f')⌝ ∗ M.view.loc (thr d L) ↦{fullShare} f')
          -∗ WP d L (k ⟨⟩) Q)
        -∗ WP d L (zeroPair M zero16 off h >>= k) Q) := by
  simp only [zeroPair, bind_assoc, Prog.bind_lift]
  iintro H Hk
  iapply (wp_load 𝒱₀ (thr d L) none Set.univ (m := M) (q := fullShare) (f := f) (Finset.subset_univ _)) $$ H
  iintro H
  iapply (wp_store 𝒱₀ (thr d L) none Set.univ (m := M) (r := Rect.unit (s := S25088) off S16.size h) (w := zero16) (Mk := Finset.univ)
    (hx := View.stores_vmem_bits_univ h_S16 rfl) (hm := .inl rfl) (k := k) (S := Finset.univ) (f := f) (Finset.subset_univ _)) $$ H
  iintro H
  iapply Hk
  isplitr
  · ipureintro
    exact zeroBelow_write M ho h f hf
  · iexact H

end Cert.Proof

end
-- ==== Proof.Loops.lean ====
/-
  A segment takes both halves from the groups before it to the groups through its end; the clearing loops leave zeros.
-/
module

public import proofs.«01_k».proof.Proof.Steps

@[expose] public section

noncomputable section

namespace Cert.Proof

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (Idealize.ShloMosaic.SparseCore.Cfg.HIx 1) (Elt F) ℕ UU ℕ

variable (d : Dev nD) (L : grid0.Coords)

/-- The tile's copies of the three tables. -/
abbrev tabs (fi : Vec F S19968 .i32) (fw fb : Vec F S19968 .f32) : sProp 𝕄 :=
  iprop(siPts d L fi ∗ swPts d L fw ∗ sbPts d L fb)

/-- Both halves after the groups below `t`. -/
abbrev halves (G : ℕ → Grp F) (t : ℕ) : sProp 𝕄 := iprop(h0Pts d L (acc0 G t) ∗ h1Pts d L (acc1 G t))

variable {d L}

theorem WP_ret {α : Type} (a : α) (Q : α → sProp 𝕄) : Q a ⊢ WP d L (pure a) Q := by
  rw [Prog.pure_eq_ret]
  show Q a ⊢ wp frame (wpE defs₀ 𝒱₀ (thr d L) none) Set.univ (Prog.ret a) Q
  rw [wp_ret]
  iintro H
  imodintro
  iexact H

/-- A carried group's two scatter-adds. -/
theorem wp_group {α : Type} (G : ℕ → Grp F) (hG : ∀ t, InRange (G t).1) (t : ℕ) {k : PUnit → TP F L α} {Q : α → sProp 𝕄} :
    halves d L G t ⊢ iprop((halves d L G (t + 1) -∗ WP d L (k ⟨⟩) Q) -∗ WP d L (scatPair h0M h1M (G t).1 (G t).2 >>= k) Q) :=
  wp_scatPair (G t).1 (G t).2 (hG t) (acc0 G t) (acc1 G t)

/-- A trip: the eight groups carried are added, the eight at `o` are carried on. -/
theorem wp_trip (G : ℕ → Grp F) (hG : ∀ t, InRange (G t).1) (t : ℕ) (x : Vec F S16 .f32) {off : Fin 8 → Fin 1 → ℕ} {o : ℕ}
    (ho : ∀ r : Fin 8, off r = ![o + 16 * r.val]) (hb : o + 128 ≤ 19968) (h : ∀ r a, off r a + S16.size a ≤ S19968.size a)
    (fi : Vec F S19968 .i32) (fw fb : Vec F S19968 .f32) :
    iprop(tabs d L fi fw fb ∗ halves d L G t)
      ⊢ WP d L (trip sI sW sB h0M h1M x off h (mkCarry fun r => G (t + r.val)))
        (fun c => iprop(⌜c = mkCarry fun r : Fin 8 => (win (o + 16 * r.val) fi, act x (win (o + 16 * r.val) fw) (win (o + 16 * r.val) fb))⌝
          ∗ tabs d L fi fw fb ∗ halves d L G (t + 8))) := by
  simp only [trip, mkCarry]
  iintro ⟨HT, HH⟩
  iapply (wp_group G hG (t + 0)) $$ HH
  iintro HH
  iapply (wp_group G hG (t + 1)) $$ HH
  iintro HH
  iapply (wp_group G hG (t + 2)) $$ HH
  iintro HH
  iapply (wp_group G hG (t + 3)) $$ HH
  iintro HH
  iapply (wp_group G hG (t + 4)) $$ HH
  iintro HH
  iapply (wp_group G hG (t + 5)) $$ HH
  iintro HH
  iapply (wp_group G hG (t + 6)) $$ HH
  iintro HH
  iapply (wp_group G hG (t + 7)) $$ HH
  iintro HH
  iapply (wp_fetch x (ho 0) (by show o + 16 * 0 + 16 ≤ 19968; omega) (h 0) fi fw fb) $$ HT
  iintro HT
  iapply (wp_fetch x (ho 1) (by show o + 16 * 1 + 16 ≤ 19968; omega) (h 1) fi fw fb) $$ HT
  iintro HT
  iapply (wp_fetch x (ho 2) (by show o + 16 * 2 + 16 ≤ 19968; omega) (h 2) fi fw fb) $$ HT
  iintro HT
  iapply (wp_fetch x (ho 3) (by show o + 16 * 3 + 16 ≤ 19968; omega) (h 3) fi fw fb) $$ HT
  iintro HT
  iapply (wp_fetch x (ho 4) (by show o + 16 * 4 + 16 ≤ 19968; omega) (h 4) fi fw fb) $$ HT
  iintro HT
  iapply (wp_fetch x (ho 5) (by show o + 16 * 5 + 16 ≤ 19968; omega) (h 5) fi fw fb) $$ HT
  iintro HT
  iapply (wp_fetch x (ho 6) (by show o + 16 * 6 + 16 ≤ 19968; omega) (h 6) fi fw fb) $$ HT
  iintro HT
  iapply (wp_fetch x (ho 7) (by show o + 16 * 7 + 16 ≤ 19968; omega) (h 7) fi fw fb) $$ HT
  iintro HT
  iapply WP_ret
  isplitr
  · ipureintro; rfl
  isplitl [HT]
  · iexact HT
  · iexact HH

/-- A group of a segment, by the segment's own splat. -/
theorem grp_seg (fi : Vec F S19968 .i32) (fw fb : Vec F S19968 .f32) (xs : Fin 4 → Vec F S16 .f32) {s : Fin 4} {t o : ℕ}
    (hs : segOf t = s) (ho : o = 16 * t) : grp fi fw fb xs t = (win o fi, act (xs s) (win o fw) (win o fb)) := by
  subst hs ho; rfl

/-- A segment: the groups from `T0` on, eight to a trip, are added. -/
theorem wp_seg {α : Type} (fi : Vec F S19968 .i32) (fw fb : Vec F S19968 .f32) (xs : Fin 4 → Vec F S16 .f32)
    (hG : ∀ t, InRange (grp fi fw fb xs t).1) (s : Fin 4) {lp : Scf.Loop 32} (ok : lp.OK) {o T0 n : ℕ} (ho : o = 16 * T0)
    (hn : lp.trips = n) (hpos : 0 < n) (hlast : 16 * (T0 + 8 * n) ≤ 19968) (hs : ∀ t, T0 ≤ t → t < T0 + 8 * n → segOf t = s)
    (h0 : ∀ r : Fin 8, ∀ a, (![o + 16 * r.val] : Fin 1 → ℕ) a + S16.size a ≤ S19968.size a)
    {off : Fin lp.trips → Fin 8 → Fin 1 → ℕ} (hoff : ∀ t r, off t r = ![16 * (T0 + 8 * min (t.val + 1) (n - 1)) + 16 * r.val])
    (h : ∀ t r a, off t r a + S16.size a ≤ S19968.size a) {k : PUnit → TP F L α} {Q : α → sProp 𝕄} :
    iprop(tabs d L fi fw fb ∗ halves d L (grp fi fw fb xs) T0)
      ⊢ iprop((iprop(tabs d L fi fw fb ∗ halves d L (grp fi fw fb xs) (T0 + 8 * n)) -∗ WP d L (k ⟨⟩) Q)
        -∗ WP d L (seg sI sW sB h0M h1M (xs s) lp ok o h0 off h >>= k) Q) := by
  simp only [seg, bind_assoc, pure_bind]
  iintro ⟨HT, HH⟩ Hk
  iapply (wp_fetch (xs s) (o := o + 16 * (0 : Fin 8).val) rfl (by show o + 16 * 0 + 16 ≤ 19968; omega) (h0 0) fi fw fb) $$ HT
  iintro HT
  iapply (wp_fetch (xs s) (o := o + 16 * (1 : Fin 8).val) rfl (by show o + 16 * 1 + 16 ≤ 19968; omega) (h0 1) fi fw fb) $$ HT
  iintro HT
  iapply (wp_fetch (xs s) (o := o + 16 * (2 : Fin 8).val) rfl (by show o + 16 * 2 + 16 ≤ 19968; omega) (h0 2) fi fw fb) $$ HT
  iintro HT
  iapply (wp_fetch (xs s) (o := o + 16 * (3 : Fin 8).val) rfl (by show o + 16 * 3 + 16 ≤ 19968; omega) (h0 3) fi fw fb) $$ HT
  iintro HT
  iapply (wp_fetch (xs s) (o := o + 16 * (4 : Fin 8).val) rfl (by show o + 16 * 4 + 16 ≤ 19968; omega) (h0 4) fi fw fb) $$ HT
  iintro HT
  iapply (wp_fetch (xs s) (o := o + 16 * (5 : Fin 8).val) rfl (by show o + 16 * 5 + 16 ≤ 19968; omega) (h0 5) fi fw fb) $$ HT
  iintro HT
  iapply (wp_fetch (xs s) (o := o + 16 * (6 : Fin 8).val) rfl (by show o + 16 * 6 + 16 ≤ 19968; omega) (h0 6) fi fw fb) $$ HT
  iintro HT
  iapply (wp_fetch (xs s) (o := o + 16 * (7 : Fin 8).val) rfl (by show o + 16 * 7 + 16 ≤ 19968; omega) (h0 7) fi fw fb) $$ HT
  iintro HT
  iapply (Scf.wp_for_bind frame (wpE defs₀ 𝒱₀ (thr d L) none) Set.univ lp.lb lp.ub lp.st ok _ _
    (fun g c => iprop(⌜c = mkCarry fun r : Fin 8 => grp fi fw fb xs (T0 + 8 * min g (n - 1) + r.val)⌝
      ∗ tabs d L fi fw fb ∗ halves d L (grp fi fw fb xs) (T0 + 8 * g))) ?hbody) $$ [HT HH]
  case hbody =>
    intro t c
    have ht : t.val < n := hn ▸ t.isLt
    iintro ⟨%hc, HT, HH⟩
    have e : min t.val (n - 1) = t.val := by omega
    rw [e] at hc
    subst hc
    iapply (wp_wand_r frame (wpE defs₀ 𝒱₀ (thr d L) none) Set.univ)
    isplitl [HT HH]
    · iapply (wp_trip (grp fi fw fb xs) hG (T0 + 8 * t.val) (xs s) (hoff t) (by omega) (h t) fi fw fb)
      isplitl [HT] <;> iassumption
    · iintro %c ⟨%hc, HT, HH⟩
      isplitr
      · ipureintro
        rw [hc]
        congr 1
        funext r
        have := r.isLt
        exact (grp_seg fi fw fb xs (hs _ (by omega) (by omega)) (by omega)).symm
      isplitl [HT] <;> iassumption
  · isplitr
    · ipureintro
      have e (r : Fin 8) : grp fi fw fb xs (T0 + 8 * min 0 (n - 1) + r.val)
          = (win (o + 16 * r.val) fi, act (xs s) (win (o + 16 * r.val) fw) (win (o + 16 * r.val) fb)) :=
        grp_seg fi fw fb xs (hs _ (by omega) (by have := r.isLt; omega)) (by omega)
      simp only [e]
      rfl
    isplitl [HT] <;> iassumption
  iintro %c ⟨-, HT, HH⟩
  rw [show Scf.trips lp.lb lp.ub lp.st = n from hn]
  iapply Hk
  isplitl [HT] <;> iassumption

/-! ## The clearing loops -/

/-- A trip of a clearing loop clears 256 words more. -/
theorem wp_zeroTrip (M : Memref sig .scVector .vmem S25088 .f32) {off : Fin 16 → Fin 1 → ℕ} {o : ℕ}
    (ho : ∀ r : Fin 16, off r = ![o + 16 * r.val]) (h : ∀ r a, off r a + S16.size a ≤ S25088.size a)
    (f : Buf (Elt F) (M.view.loc (thr d L))) (hf : ZeroBelow (F := F) (o + 16 * 0) (M.view.read (Elt F) f)) :
    (M.view.loc (thr d L) ↦{fullShare} f)
      ⊢ WP d L (zeroTrip M zero16 off h) fun _ => iprop(∃ f' : Buf (Elt F) (M.view.loc (thr d L)),
          ⌜ZeroBelow (F := F) (o + 256) (M.view.read (Elt F) f')⌝ ∗ M.view.loc (thr d L) ↦{fullShare} f') := by
  simp only [zeroTrip]
  iintro H
  iapply (wp_zeroPair M (ho 0) (h 0) f hf) $$ H
  iintro %f1 ⟨%hf1, H⟩
  iapply (wp_zeroPair M (ho 1) (h 1) f1 hf1) $$ H
  iintro %f2 ⟨%hf2, H⟩
  iapply (wp_zeroPair M (ho 2) (h 2) f2 hf2) $$ H
  iintro %f3 ⟨%hf3, H⟩
  iapply (wp_zeroPair M (ho 3) (h 3) f3 hf3) $$ H
  iintro %f4 ⟨%hf4, H⟩
  iapply (wp_zeroPair M (ho 4) (h 4) f4 hf4) $$ H
  iintro %f5 ⟨%hf5, H⟩
  iapply (wp_zeroPair M (ho 5) (h 5) f5 hf5) $$ H
  iintro %f6 ⟨%hf6, H⟩
  iapply (wp_zeroPair M (ho 6) (h 6) f6 hf6) $$ H
  iintro %f7 ⟨%hf7, H⟩
  iapply (wp_zeroPair M (ho 7) (h 7) f7 hf7) $$ H
  iintro %f8 ⟨%hf8, H⟩
  iapply (wp_zeroPair M (ho 8) (h 8) f8 hf8) $$ H
  iintro %f9 ⟨%hf9, H⟩
  iapply (wp_zeroPair M (ho 9) (h 9) f9 hf9) $$ H
  iintro %f10 ⟨%hf10, H⟩
  iapply (wp_zeroPair M (ho 10) (h 10) f10 hf10) $$ H
  iintro %f11 ⟨%hf11, H⟩
  iapply (wp_zeroPair M (ho 11) (h 11) f11 hf11) $$ H
  iintro %f12 ⟨%hf12, H⟩
  iapply (wp_zeroPair M (ho 12) (h 12) f12 hf12) $$ H
  iintro %f13 ⟨%hf13, H⟩
  iapply (wp_zeroPair M (ho 13) (h 13) f13 hf13) $$ H
  iintro %f14 ⟨%hf14, H⟩
  iapply (wp_zeroPair M (ho 14) (h 14) f14 hf14) $$ H
  iintro %f15 ⟨%hf15, H⟩
  iapply (wp_zeroPair M (ho 15) (h 15) f15 hf15) $$ H
  iintro %f16 ⟨%hf16, H⟩
  iapply WP_ret
  iexists f16
  isplitr
  · ipureintro; exact hf16
  · iexact H

/-- A clearing loop clears the whole buffer. -/
theorem wp_zeroLoop {α : Type} (M : Memref sig .scVector .vmem S25088 .f32) {lp : Scf.Loop 32} (ok : lp.OK) (hn : lp.trips = 98)
    {off : Fin lp.trips → Fin 16 → Fin 1 → ℕ} (hoff : ∀ t r, off t r = ![256 * t.val + 16 * r.val])
    (h : ∀ t r a, off t r a + S16.size a ≤ S25088.size a) (f : Buf (Elt F) (M.view.loc (thr d L)))
    {k : Unit → TP F L α} {Q : α → sProp 𝕄} :
    (M.view.loc (thr d L) ↦{fullShare} f)
      ⊢ iprop((∀ f' : Buf (Elt F) (M.view.loc (thr d L)), iprop(⌜M.view.read (Elt F) f' = zeros⌝ ∗ M.view.loc (thr d L) ↦{fullShare} f')
          -∗ WP d L (k ⟨⟩) Q)
        -∗ WP d L (Scf.Loop.for lp ok (⟨⟩ : Unit) (fun t _ => zeroTrip M zero16 (off t) (h t)) >>= k) Q) := by
  iintro H Hk
  iapply (Scf.wp_for_bind frame (wpE defs₀ 𝒱₀ (thr d L) none) Set.univ lp.lb lp.ub lp.st ok _ _
    (fun g (_ : Unit) => iprop(∃ f' : Buf (Elt F) (M.view.loc (thr d L)),
      ⌜ZeroBelow (F := F) (256 * g) (M.view.read (Elt F) f')⌝ ∗ M.view.loc (thr d L) ↦{fullShare} f')) ?hbody) $$ [H]
  case hbody =>
    intro t _
    iintro ⟨%f', %hf', H⟩
    iapply (wp_zeroTrip M (hoff t) (h t) f' hf') $$ H
  · iexists f
    isplitr
    · ipureintro
      intro j hj
      exact absurd hj (by omega)
    · iexact H
  iintro %c ⟨%f', %hf', H⟩
  iapply Hk
  isplitr
  · ipureintro
    funext j
    rw [show Scf.trips lp.lb lp.ub lp.st = 98 from hn] at hf'
    exact hf' j (j 0).isLt
  · iexact H

end Cert.Proof

end
-- ==== Proof.Copies.lean ====
/-
  A row's copies out and the waits for them: a row in flight holds its two pieces of the output, at their final
  values, together with the halves they are read from.
-/
module

public import proofs.«01_k».proof.Proof.Loops

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The pieces -/

/-- A row's first piece of the output. -/
abbrev outA (L : grid0.Coords) (r : Fin k0_t1_loop.trips) : Memref sig .scVector .hbm S25088 .f32 :=
  oM.slice (Rect.unit (s := S51200000) (k0_off9 L r) S25088.size (k0_off9_inb L r)) (fun _ => rfl)
/-- A row's second piece of the output. -/
abbrev outB (L : grid0.Coords) (r : Fin k0_t1_loop.trips) : Memref sig .scVector .hbm S24912 .f32 :=
  oM.slice (Rect.unit (s := S51200000) (k0_off10 L r) S24912.size (k0_off10_inb L r)) (fun _ => rfl)
/-- The first half as a copy reads it, whole. -/
abbrev src0 : Memref sig .scVector .vmem S25088 .f32 := h0M.slice (Rect.unit (s := S25088) ![0] S25088.size inb_S25088_S25088_0) (fun _ => rfl)
/-- The second half as a copy reads it, its first 24912 words. -/
abbrev src1 : Memref sig .scVector .vmem S24912 .f32 := h1M.slice (Rect.unit (s := S25088) ![0] S24912.size inb_S25088_S24912_0) (fun _ => rfl)

/-- The first row of the tile at `L`. -/
def row0 (L : grid0.Coords) : ℕ := 64 * (L 1).val + 32 * (L 0).val

/-- What is written to a row's first piece is the row's first 25088 words. -/
theorem write_A (L : grid0.Coords) (r : Fin k0_t1_loop.trips) (fi : Vec F S19968 .i32) (fw fb : Vec F S19968 .f32) (fx : Vec F S65536 .f32)
    (fo : Vec F S51200000 .f32) {a : Vec F S25088 .f32} (ha : a = acc0 (grp fi fw fb (splat fx (row0 L + r.val))) 1248)
    (p : S51200000.Idx) (hp : p ∈ (outA L r).view.set) :
    (outA L r).view.write (Elt F) fo (src0.view.read (Elt F) a) Finset.univ p
      = outVal fi fw fb fx p := by
  obtain ⟨j, -, rfl⟩ := Finset.mem_map.mp hp
  rw [View.write_emb_of_mem _ _ (Finset.mem_univ _)]
  have hj : (j 0).val < 25088 := (j 0).isLt
  have e : (((outA L r).view.emb j) 0).val = 50000 * (row0 L + r.val) + (j 0).val := by
    have e1 : (((outA L r).view.emb j) 0).val = k0_off9 L r 0 + 1 * (j 0).val := rfl
    rw [e1, k0_off9_eq]
    show 3200000 * (L 1).val + 1600000 * (L 0).val + 50000 * r.val + 1 * (j 0).val = 50000 * (64 * (L 1).val + 32 * (L 0).val + r.val) + (j 0).val
    omega
  unfold outVal
  rw [e, show (50000 * (row0 L + r.val) + (j 0).val) / 50000 = row0 L + r.val by omega,
    show (50000 * (row0 L + r.val) + (j 0).val) % 50000 = (j 0).val by omega]
  unfold rowVal at25
  rw [if_pos hj]
  rw [← ha]
  show a (src0.view.emb j) = _
  refine congrArg a (funext fun i => ?_)
  have hi : i = 0 := Fin.eq_zero i
  subst hi
  apply Fin.ext
  show 0 + 1 * (j 0).val = (j 0).val % 25088
  omega

/-- What is written to a row's second piece is the row's last 24912 words. -/
theorem write_B (L : grid0.Coords) (r : Fin k0_t1_loop.trips) (fi : Vec F S19968 .i32) (fw fb : Vec F S19968 .f32) (fx : Vec F S65536 .f32)
    (fo : Vec F S51200000 .f32) {a : Vec F S25088 .f32} (ha : a = acc1 (grp fi fw fb (splat fx (row0 L + r.val))) 1248)
    (p : S51200000.Idx) (hp : p ∈ (outB L r).view.set) :
    (outB L r).view.write (Elt F) fo (src1.view.read (Elt F) a) Finset.univ p
      = outVal fi fw fb fx p := by
  obtain ⟨j, -, rfl⟩ := Finset.mem_map.mp hp
  rw [View.write_emb_of_mem _ _ (Finset.mem_univ _)]
  have hj : (j 0).val < 24912 := (j 0).isLt
  have e : (((outB L r).view.emb j) 0).val = 50000 * (row0 L + r.val) + (25088 + (j 0).val) := by
    have e1 : (((outB L r).view.emb j) 0).val = k0_off10 L r 0 + 1 * (j 0).val := rfl
    rw [e1, k0_off10_eq]
    show 3200000 * (L 1).val + 1600000 * (L 0).val + 50000 * r.val + 25088 + 1 * (j 0).val = 50000 * (64 * (L 1).val + 32 * (L 0).val + r.val) + (25088 + (j 0).val)
    omega
  unfold outVal
  rw [e, show (50000 * (row0 L + r.val) + (25088 + (j 0).val)) / 50000 = row0 L + r.val by omega,
    show (50000 * (row0 L + r.val) + (25088 + (j 0).val)) % 50000 = 25088 + (j 0).val by omega]
  unfold rowVal at25
  have hn : ¬ 25088 + (j 0).val < 25088 := by omega
  rw [if_neg hn]
  rw [← ha]
  show a (src1.view.emb j) = _
  refine congrArg a (funext fun i => ?_)
  have hi : i = 0 := Fin.eq_zero i
  subst hi
  apply Fin.ext
  show 0 + 1 * (j 0).val = (25088 + (j 0).val - 25088) % 25088
  omega

variable (d : Dev nD) (L : grid0.Coords)

/-- A row's two pieces of the output at contents `f`. -/
abbrev rowPts (f : Vec F S51200000 .f32) (r : Fin k0_t1_loop.trips) : sProp 𝕄 :=
  iprop((oM.view.loc (thr d L) ↦[(outA L r).view.set]{fullShare} f) ∗ (oM.view.loc (thr d L) ↦[(outB L r).view.set]{fullShare} f))

/-- The two cells the copies out signal. -/
abbrev sem0 : SemLoc sig := .dma cc0_scratch6.sem
abbrev sem1 : SemLoc sig := .dma cc0_scratch7.sem

/-- No copy out in flight: both halves whole, both counters at zero. -/
def free : sProp 𝕄 :=
  iprop((∃ f, h0Pts d L f) ∗ (∃ f, h1Pts d L f) ∗ semVal (thr d L, sem0) 0 ∗ semVal (thr d L, sem1) 0)

/-- Row `r`'s copies in flight. -/
def flying (f : Vec F S51200000 .f32) (r : Fin k0_t1_loop.trips) : sProp 𝕄 :=
  iprop(Transfers.Flight countersEmb (thr d L) sem0 (none : HIx 1) ((outA L r).view.amount sem0)
      iprop((oM.view.loc (thr d L) ↦[(outA L r).view.set]{fullShare} f)
        ∗ ∃ g : Vec F S25088 .f32, h0M.view.loc (thr d L) ↦[src0.view.set]{fullShare} g)
    ∗ (∃ g : Vec F S25088 .f32, h0M.view.loc (thr d L) ↦[Finset.univ \ src0.view.set]{fullShare} g)
    ∗ Transfers.Flight countersEmb (thr d L) sem1 (none : HIx 1) ((outB L r).view.amount sem1)
      iprop((oM.view.loc (thr d L) ↦[(outB L r).view.set]{fullShare} f)
        ∗ ∃ g : Vec F S25088 .f32, h1M.view.loc (thr d L) ↦[src1.view.set]{fullShare} g)
    ∗ (∃ g : Vec F S25088 .f32, h1M.view.loc (thr d L) ↦[Finset.univ \ src1.view.set]{fullShare} g))

/-- The tile owes `O`, waits on its own transfers recorded beyond `W`. -/
def owing (O : CellTallies nD τ sig (HIx 1)) (W : Waits sig (HIx 1)) : sProp 𝕄 :=
  iprop(∃ W', ⌜∀ p ∈ W', p ∈ W ∨ p.2 = none⌝ ∗ owes (thr d L) O W')

variable {d L}

/-- The copies out of a row put it in flight. -/
theorem wp_copies {α : Type} (r : Fin k0_t1_loop.trips) (fi : Vec F S19968 .i32) (fw fb : Vec F S19968 .f32) (fx : Vec F S65536 .f32)
    (fo : Vec F S51200000 .f32) {k : PUnit → TP F L α} {Q : α → sProp 𝕄} :
    iprop(halves d L (grp fi fw fb (splat fx (row0 L + r.val))) 1248 ∗ rowPts d L fo r ∗ semVal (thr d L, sem0) 0 ∗ semVal (thr d L, sem1) 0)
      ⊢ iprop((flying d L (outVal fi fw fb fx) r -∗ WP d L (k ⟨⟩) Q)
        -∗ WP d L (copies oM h0M h1M cc0_scratch6 cc0_scratch7 r >>= k) Q) := by
  simp only [copies, bind_assoc, Prog.bind_lift]
  iintro ⟨⟨H0, H1⟩, ⟨HA, HB⟩, Hs0, Hs1⟩ Hk
  ihave H0' := (pointsTo_split_subset (ℓ := h0M.view.loc (thr d L)) (Finset.subset_univ src0.view.set)).1 $$ H0
  icases H0' with ⟨H0, R0⟩
  ihave H1' := (pointsTo_split_subset (ℓ := h1M.view.loc (thr d L)) (Finset.subset_univ src1.view.set)).1 $$ H1
  icases H1' with ⟨H1, R1⟩
  iapply (Transfers.wp_dmaLocal countersEmb 𝒱₀ (thr d L) none (src := src0) (dst := outA L r) (sm := sem0)
    (none : HIx 1) ((outA L r).view.amount sem0) rfl (View.amount_pos _ _ (show 0 < S25088.numel by decide)) (Finset.Subset.refl _)) $$ [H0 HA Hs0]
  · isplitl [H0]; · iexact H0
    isplitl [HA]; · iexact HA
    iexact Hs0
  iintro F0
  iapply (Transfers.wp_dmaLocal countersEmb 𝒱₀ (thr d L) none (src := src1) (dst := outB L r) (sm := sem1)
    (none : HIx 1) ((outB L r).view.amount sem1) rfl (View.amount_pos _ _ (show 0 < S24912.numel by decide)) (Finset.Subset.refl _)) $$ [H1 HB Hs1]
  · isplitl [H1]; · iexact H1
    isplitl [HB]; · iexact HB
    iexact Hs1
  iintro F1
  iapply Hk
  unfold flying
  isplitl [F0]
  · iapply (Transfers.Flight_mono countersEmb (thr d L) ?_) $$ F0
    iintro ⟨HO, H⟩
    isplitl [HO]
    · iapply (Entails.of_eq (pointsTo_congr (write_A L r fi fw fb fx fo rfl))) $$ HO
    · iexists _; iexact H
  isplitl [R0]
  · iexists _; iexact R0
  isplitl [F1]
  · iapply (Transfers.Flight_mono countersEmb (thr d L) ?_) $$ F1
    iintro ⟨HO, H⟩
    isplitl [HO]
    · iapply (Entails.of_eq (pointsTo_congr (write_B L r fi fw fb fx fo rfl))) $$ HO
    · iexists _; iexact H
  · iexists _; iexact R1

theorem owing_open {O : CellTallies nD τ sig (HIx 1)} {W : Waits sig (HIx 1)} :
    (owing d L O W : sProp 𝕄) ⊢ iprop(∃ W', ⌜∀ p ∈ W', p ∈ W ∨ p.2 = none⌝ ∗ owes (thr d L) O W') := Entails.of_eq rfl

theorem owing_insert {sm : SemLoc sig} {O : CellTallies nD τ sig (HIx 1)} {W W' : Waits sig (HIx 1)} (h : ∀ p ∈ W', p ∈ W ∨ p.2 = none) :
    owes (thr d L) O (insert (sm, (none : HIx 1)) W') ⊢ (owing d L O W : sProp 𝕄) := by
  unfold owing
  iintro H
  iexists (insert (sm, (none : HIx 1)) W')
  isplitr
  · ipureintro
    intro p hp
    rcases Finset.mem_insert.mp hp with hp | hp
    · exact .inr (by rw [hp])
    · exact h p hp
  · iexact H

/-- The waits for a row in flight hand its pieces back, both halves free again. -/
theorem wp_waits {α : Type} (r : Fin k0_t1_loop.trips) (f : Vec F S51200000 .f32) (O : CellTallies nD τ sig (HIx 1)) (W : Waits sig (HIx 1))
    {k : PUnit → TP F L α} {Q : α → sProp 𝕄} :
    iprop(Transfers.MayWaits (thr d L) (none : HIx 1) O ∗ flying d L f r ∗ owing d L O W)
      ⊢ iprop((iprop(free d L ∗ rowPts d L f r ∗ owing d L O W) -∗ WP d L (k ⟨⟩) Q)
        -∗ WP d L (waits oM h0M h1M cc0_scratch6 cc0_scratch7 >>= k) Q) := by
  simp only [waits, bind_assoc, Prog.bind_lift]
  iintro ⟨#Hmw, Hf, HO⟩ Hk
  unfold flying
  icases Hf with ⟨F0, ⟨%g0, R0⟩, F1, ⟨%g1, R1⟩⟩
  ihave HO' := owing_open $$ HO
  icases HO' with ⟨%W1, %hW1, HO⟩
  ihave Hm0 := (Transfers.MayWaits.elim sem0) $$ Hmw
  iapply (Transfers.wp_waitLocalO countersEmb 𝒱₀ (thr d L) none (none : HIx 1)
    (dstw := oM.slice (Rect.unit (s := S51200000) ![0] S25088.size inb_S51200000_S25088_0) (fun _ => rfl))
    (N := (outA L r).view.amount sem0) (hN := rfl)) $$ [F0 HO Hm0]
  · isplitl [F0]; · iexact F0
    isplitl [HO]; · iexact HO
    iexact Hm0
  iintro ⟨⟨HA, %e0, H0⟩, Hs0, HO⟩
  ihave HO := (owing_insert hW1) $$ HO
  ihave HO' := owing_open $$ HO
  icases HO' with ⟨%W2, %hW2, HO⟩
  ihave Hm1 := (Transfers.MayWaits.elim sem1) $$ Hmw
  iapply (Transfers.wp_waitLocalO countersEmb 𝒱₀ (thr d L) none (none : HIx 1)
    (dstw := oM.slice (Rect.unit (s := S51200000) ![0] S24912.size inb_S51200000_S24912_0) (fun _ => rfl))
    (N := (outB L r).view.amount sem1) (hN := rfl)) $$ [F1 HO Hm1]
  · isplitl [F1]; · iexact F1
    isplitl [HO]; · iexact HO
    iexact Hm1
  iintro ⟨⟨HB, %e1, H1⟩, Hs1, HO⟩
  ihave HO := (owing_insert hW2) $$ HO
  iapply Hk
  isplitl [H0 R0 H1 R1 Hs0 Hs1]
  · unfold free
    isplitl [H0 R0]
    · iexists _
      iapply (pointsTo_join_subset (ℓ := h0M.view.loc (thr d L)) (Finset.subset_univ src0.view.set))
      isplitl [H0] <;> iassumption
    isplitl [H1 R1]
    · iexists _
      iapply (pointsTo_join_subset (ℓ := h1M.view.loc (thr d L)) (Finset.subset_univ src1.view.set))
      isplitl [H1] <;> iassumption
    isplitl [Hs0] <;> iassumption
  isplitl [HA HB]
  · isplitl [HA] <;> iassumption
  · iexact HO

end Cert.Proof

end
-- ==== Proof.RowRun.lean ====
/-
  A tile's rows: each row is cleared, accumulated and put in flight; after the last row's waits every row of the tile
  holds its final values.
-/
module

public import proofs.«01_k».proof.Proof.Copies

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## A row in two parts -/

/-- Whether a row has a row before it in flight. -/
abbrev hasPrev (r : Fin k0_t1_loop.trips) : Prop :=
  Scalar.cmpi .ne (Scalar.extui (Scalar.cmpi .sgt (Scf.iv 0#32 1#32 r) 0#32) : BitVec 32) 0#32 = 1#1

theorem hasPrev_iff : ∀ r : Fin k0_t1_loop.trips, hasPrev r ↔ 0 < r.val := by decide +kernel

theorem rows_eq : k0_t1_loop.trips = 32 := by decide +kernel

/-- A row once both halves are free. -/
def rowRest (L : grid0.Coords) (out : Memref sig .scVector .hbm S51200000 .f32) (idr : Memref sig .scVector .vmem S19968 .i32)
    (wr br : Memref sig .scVector .vmem S19968 .f32) (xr : Memref sig .scVector .vmem S2048 .f32)
    (bh0 bh1 : Memref sig .scVector .vmem S25088 .f32) (os0 os1 : DmaSems sig S_) (r : Fin k0_t1_loop.trips) : TP F L Unit := do
  Scf.Loop.for k0_t2_loop k0_t2_ok (⟨⟩ : Unit)
    (fun t _ => zeroTrip bh0 (k0_pay1 (F := F)) (fun s => k0_off2 t (BitVec.ofNat 32 (16 * s.val))) (k0_off2_inb t))
  Scf.Loop.for k0_t3_loop k0_t3_ok (⟨⟩ : Unit)
    (fun t _ => zeroTrip bh1 (k0_pay1 (F := F)) (fun s => k0_off3 t (BitVec.ofNat 32 (16 * s.val))) (k0_off3_inb t))
  let x0 ← xload xr r 0
  seg idr wr br bh0 bh1 x0 k0_t4_loop k0_t4_ok 0 (seg_inb 0 (by decide)) (fun t s => k0_off5 t (BitVec.ofNat 32 (16 * s.val))) k0_off5_inb
  let x1 ← xload xr r 1
  seg idr wr br bh0 bh1 x1 k0_t5_loop k0_t5_ok 12800 (seg_inb 12800 (by decide)) (fun t s => k0_off6 t (BitVec.ofNat 32 (16 * s.val))) k0_off6_inb
  let x2 ← xload xr r 2
  seg idr wr br bh0 bh1 x2 k0_t6_loop k0_t6_ok 14848 (seg_inb 14848 (by decide)) (fun t s => k0_off7 t (BitVec.ofNat 32 (16 * s.val))) k0_off7_inb
  let x3 ← xload xr r 3
  seg idr wr br bh0 bh1 x3 k0_t7_loop k0_t7_ok 18944 (seg_inb 18944 (by decide)) (fun t s => k0_off8 t (BitVec.ofNat 32 (16 * s.val))) k0_off8_inb
  copies out bh0 bh1 os0 os1 r

theorem rowProg_prev (L : grid0.Coords) (out : Memref sig .scVector .hbm S51200000 .f32) (idr : Memref sig .scVector .vmem S19968 .i32)
    (wr br : Memref sig .scVector .vmem S19968 .f32) (xr : Memref sig .scVector .vmem S2048 .f32)
    (bh0 bh1 : Memref sig .scVector .vmem S25088 .f32) (os0 os1 : DmaSems sig S_) (r : Fin k0_t1_loop.trips) (h : hasPrev r) :
    rowProg (F := F) (L := L) out idr wr br xr bh0 bh1 os0 os1 r
      = (waits out bh0 bh1 os0 os1 >>= fun _ => rowRest L out idr wr br xr bh0 bh1 os0 os1 r) := by
  simp only [rowProg, h, ↓reduceDIte]; rfl

theorem rowProg_first (L : grid0.Coords) (out : Memref sig .scVector .hbm S51200000 .f32) (idr : Memref sig .scVector .vmem S19968 .i32)
    (wr br : Memref sig .scVector .vmem S19968 .f32) (xr : Memref sig .scVector .vmem S2048 .f32)
    (bh0 bh1 : Memref sig .scVector .vmem S25088 .f32) (os0 os1 : DmaSems sig S_) (r : Fin k0_t1_loop.trips) (h : ¬ hasPrev r) :
    rowProg (F := F) (L := L) out idr wr br xr bh0 bh1 os0 os1 r = rowRest L out idr wr br xr bh0 bh1 os0 os1 r := by
  simp only [rowProg, h, ↓reduceDIte]; rfl

variable {d : Dev nD} {L : grid0.Coords}

/-! ## The splats -/

/-- The tile's slice of the splat array. -/
def XSlice (L : grid0.Coords) (fx : Vec F S65536 .f32) (sx : Vec F S2048 .f32) : Prop :=
  ∀ j : S2048.Idx, sx j = fx (Shape.ofLane (d := ![65536]) ⟨(64 * row0 L + (j 0).val) % 65536, Nat.mod_lt _ (by decide)⟩)

/-- A row's splat for a segment is loaded. -/
theorem wp_xload {α : Type} (r : Fin k0_t1_loop.trips) (s : Fin 4) {fx : Vec F S65536 .f32} {sx : Vec F S2048 .f32} (hx : XSlice L fx sx)
    {k : Vec F S16 .f32 → TP F L α} {Q : α → sProp 𝕄} :
    sxPts d L sx ⊢ iprop((sxPts d L sx -∗ WP d L (k (splat fx (row0 L + r.val) s)) Q) -∗ WP d L (xload sX r s >>= k) Q) := by
  have e : sX.view.readAt (Elt F) (Rect.unit (s := S2048) (k0_off4 r (BitVec.ofNat 32 (16 * s.val))) S16.size (k0_off4_inb r s)).toLoadRect sx
      = splat fx (row0 L + r.val) s := by
    funext l
    have hl : (l 0).val < 16 := (l 0).isLt
    show sx ((Rect.unit (s := S2048) (k0_off4 r (BitVec.ofNat 32 (16 * s.val))) S16.size (k0_off4_inb r s)).toLoadRect.idx l) = _
    rw [hx]
    unfold splat xwin
    refine congrArg fx (congrArg (Shape.ofLane (d := ![65536])) (Fin.ext ?_))
    show (64 * row0 L + (k0_off4 r (BitVec.ofNat 32 (16 * s.val)) 0 + 1 * (l 0).val)) % 65536 = (64 * (row0 L + r.val) + 16 * s.val + (l 0).val) % 65536
    have e4 : k0_off4 r (BitVec.ofNat 32 (16 * s.val)) 0 = 64 * r.val + 16 * s.val := congrFun (k0_off4_eq r s) 0
    refine congrArg (· % 65536) ?_
    omega
  simp only [xload, Prog.bind_lift]
  iintro Hx Hk
  iapply (wp_load 𝒱₀ (thr d L) none Set.univ (m := sX) (q := fullShare) (f := sx) (Finset.subset_univ _)) $$ Hx
  iintro Hx
  rw [e]
  iapply Hk $$ Hx

/-! ## A row -/

theorem wp_seg_to {α : Type} (fi : Vec F S19968 .i32) (fw fb : Vec F S19968 .f32) (xs : Fin 4 → Vec F S16 .f32)
    (hG : ∀ t, InRange (grp fi fw fb xs t).1) (s : Fin 4) {lp : Scf.Loop 32} (ok : lp.OK) {o : ℕ} (T0 n T1 : ℕ) (h1 : T0 + 8 * n = T1) (ho : o = 16 * T0)
    (hn : lp.trips = n) (hpos : 0 < n) (hlast : 16 * (T0 + 8 * n) ≤ 19968) (hs : ∀ t, T0 ≤ t → t < T0 + 8 * n → segOf t = s)
    (h0 : ∀ r : Fin 8, ∀ a, (![o + 16 * r.val] : Fin 1 → ℕ) a + S16.size a ≤ S19968.size a)
    {off : Fin lp.trips → Fin 8 → Fin 1 → ℕ} (hoff : ∀ t r, off t r = ![16 * (T0 + 8 * min (t.val + 1) (n - 1)) + 16 * r.val])
    (h : ∀ t r a, off t r a + S16.size a ≤ S19968.size a) {k : PUnit → TP F L α} {Q : α → sProp 𝕄} :
    iprop(tabs d L fi fw fb ∗ halves d L (grp fi fw fb xs) T0)
      ⊢ iprop((iprop(tabs d L fi fw fb ∗ halves d L (grp fi fw fb xs) T1) -∗ WP d L (k ⟨⟩) Q)
        -∗ WP d L (seg sI sW sB h0M h1M (xs s) lp ok o h0 off h >>= k) Q) := by
  subst h1
  exact wp_seg fi fw fb xs hG s ok ho hn hpos hlast hs h0 hoff h

/-- A row from free halves: its final values are in flight to its two pieces. -/
theorem wp_rowRest (r : Fin k0_t1_loop.trips) {fi : Vec F S19968 .i32} (fw fb : Vec F S19968 .f32) {fx : Vec F S65536 .f32} {sx : Vec F S2048 .f32}
    (fo : Vec F S51200000 .f32) (hfi : ∀ t, InRange (win (F := F) (e := .i32) (16 * t) fi)) (hx : XSlice L fx sx) :
    iprop(tabs d L fi fw fb ∗ sxPts d L sx ∗ free d L ∗ rowPts d L fo r)
      ⊢ WP d L (rowRest L oM sI sW sB sX h0M h1M cc0_scratch6 cc0_scratch7 r)
        fun _ => iprop(tabs d L fi fw fb ∗ sxPts d L sx ∗ flying d L (outVal fi fw fb fx) r) := by
  have hG : ∀ t, InRange (grp fi fw fb (splat fx (row0 L + r.val)) t).1 := hfi
  unfold rowRest
  iintro ⟨HT, Hx, Hf, HP⟩
  unfold free
  icases Hf with ⟨⟨%f0, H0⟩, ⟨%f1, H1⟩, Hs0, Hs1⟩
  iapply (wp_zeroLoop h0M k0_t2_ok (by decide +kernel) (k0_off2_eq) k0_off2_inb f0) $$ H0
  iintro %z0 ⟨%hz0, H0⟩
  iapply (wp_zeroLoop h1M k0_t3_ok (by decide +kernel) (k0_off3_eq) k0_off3_inb f1) $$ H1
  iintro %z1 ⟨%hz1, H1⟩
  have hz0' : z0 = acc0 (grp fi fw fb (splat fx (row0 L + r.val))) 0 := hz0
  have hz1' : z1 = acc1 (grp fi fw fb (splat fx (row0 L + r.val))) 0 := hz1
  subst hz0' hz1'
  iapply (wp_xload r 0 hx) $$ Hx
  iintro Hx
  iapply (wp_seg_to fi fw fb (splat fx (row0 L + r.val)) hG 0 k0_t4_ok 0 100 800 (by decide) (by decide) (by decide +kernel) (by decide) (by decide)
    (fun t h h' => by unfold segOf; rw [if_pos (by omega)]) (seg_inb 0 (by decide))
    (fun t s => (k0_off5_eq t s).trans (by congr 1; omega)) k0_off5_inb) $$ [HT H0 H1]
  · isplitl [HT]; · iexact HT
    isplitl [H0] <;> iassumption
  iintro ⟨HT, HH⟩
  iapply (wp_xload r 1 hx) $$ Hx
  iintro Hx
  iapply (wp_seg_to fi fw fb (splat fx (row0 L + r.val)) hG 1 k0_t5_ok 800 16 928 (by decide) (by decide) (by decide +kernel) (by decide) (by decide)
    (fun t h h' => by unfold segOf; rw [if_neg (by omega), if_pos (by omega)]) (seg_inb 12800 (by decide))
    (fun t s => (k0_off6_eq t s).trans (by congr 1; omega)) k0_off6_inb) $$ [HT HH]
  · isplitl [HT]; · iexact HT
    iexact HH
  iintro ⟨HT, HH⟩
  iapply (wp_xload r 2 hx) $$ Hx
  iintro Hx
  iapply (wp_seg_to fi fw fb (splat fx (row0 L + r.val)) hG 2 k0_t6_ok 928 32 1184 (by decide) (by decide) (by decide +kernel) (by decide) (by decide)
    (fun t h h' => by unfold segOf; rw [if_neg (by omega), if_neg (by omega), if_pos (by omega)]) (seg_inb 14848 (by decide))
    (fun t s => (k0_off7_eq t s).trans (by congr 1; omega)) k0_off7_inb) $$ [HT HH]
  · isplitl [HT]; · iexact HT
    iexact HH
  iintro ⟨HT, HH⟩
  iapply (wp_xload r 3 hx) $$ Hx
  iintro Hx
  iapply (wp_seg_to fi fw fb (splat fx (row0 L + r.val)) hG 3 k0_t7_ok 1184 8 1248 (by decide) (by decide) (by decide +kernel) (by decide) (by decide)
    (fun t h h' => by unfold segOf; rw [if_neg (by omega), if_neg (by omega), if_neg (by omega)]) (seg_inb 18944 (by decide))
    (fun t s => (k0_off8_eq t s).trans (by congr 1; omega)) k0_off8_inb) $$ [HT HH]
  · isplitl [HT]; · iexact HT
    iexact HH
  iintro ⟨HT, HH⟩
  rw [← bind_pure (copies oM h0M h1M cc0_scratch6 cc0_scratch7 r)]
  iapply (wp_copies r fi fw fb fx fo) $$ [HH HP Hs0 Hs1]
  · isplitl [HH]; · iexact HH
    isplitl [HP]; · iexact HP
    isplitl [Hs0] <;> iassumption
  iintro HF
  iapply WP_ret
  isplitl [HT]; · iexact HT
  isplitl [Hx]; · iexact Hx
  iexact HF

end Cert.Proof

end
-- ==== Proof.Rows.lean ====
/-
  The row loop: before row `g` the rows below `g - 1` hold their final values, row `g - 1` is in flight, the rows from
  `g` on are as they were; after the last waits all rows hold their final values.
-/
module

public import proofs.«01_k».proof.Proof.RowRun

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid0.Coords)

/-- The rows that satisfy `p`, at contents `f`. -/
abbrev rowsPts (p : Fin k0_t1_loop.trips → Prop) [DecidablePred p] (f : Vec F S51200000 .f32) : sProp 𝕄 :=
  bigSep (Finset.univ.filter p) (rowPts d L f)

/-- No row, or the row before `g`, in flight. -/
def upTo (f : Vec F S51200000 .f32) (g : ℕ) : sProp 𝕄 :=
  iprop((⌜g = 0⌝ ∗ free d L) ∨ ∃ r : Fin k0_t1_loop.trips, ⌜g = r.val + 1⌝ ∗ flying d L f r)

/-- What the row loop holds before row `g`: `f` the final contents, `fo` the first. -/
def rowInv (fi : Vec F S19968 .i32) (fw fb : Vec F S19968 .f32) (sx : Vec F S2048 .f32) (f fo : Vec F S51200000 .f32)
    (O : CellTallies nD τ sig (HIx 1)) (W : Waits sig (HIx 1)) (g : ℕ) : sProp 𝕄 :=
  iprop(Transfers.MayWaits (thr d L) (none : HIx 1) O ∗ tabs d L fi fw fb ∗ sxPts d L sx ∗ owing d L O W
    ∗ rowsPts d L (fun r => r.val + 1 < g) f ∗ rowsPts d L (fun r => g ≤ r.val) fo ∗ upTo d L f g)

variable {d L}

/-- The raw rows from `r` on are row `r` and those above it. -/
theorem raw_split (fo : Vec F S51200000 .f32) (r : Fin k0_t1_loop.trips) :
    rowsPts d L (fun q => r.val ≤ q.val) fo = iprop(rowPts d L fo r ∗ rowsPts d L (fun q => r.val + 1 ≤ q.val) fo) := by
  have e : (Finset.univ.filter fun q : Fin k0_t1_loop.trips => r.val ≤ q.val)
      = insert r (Finset.univ.filter fun q : Fin k0_t1_loop.trips => r.val + 1 ≤ q.val) := by
    ext q
    simp only [Finset.mem_filter, Finset.mem_univ, true_and, Finset.mem_insert, Fin.ext_iff]
    omega
  show bigSep _ _ = _
  rw [e, SparseCore.bigSep_insert' (by simp)]

/-- The rows through `r` are row `r` and those below it. -/
theorem done_split (f : Vec F S51200000 .f32) (r : Fin k0_t1_loop.trips) :
    rowsPts d L (fun q => q.val < r.val + 1) f = iprop(rowPts d L f r ∗ rowsPts d L (fun q => q.val + 1 < r.val + 1) f) := by
  have e : (Finset.univ.filter fun q : Fin k0_t1_loop.trips => q.val < r.val + 1)
      = insert r (Finset.univ.filter fun q : Fin k0_t1_loop.trips => q.val + 1 < r.val + 1) := by
    ext q
    simp only [Finset.mem_filter, Finset.mem_univ, true_and, Finset.mem_insert, Fin.ext_iff]
    omega
  show bigSep _ _ = _
  rw [e, SparseCore.bigSep_insert' (by simp)]

/-- A row takes the loop's invariant to the next row's. -/
theorem wp_row {fi : Vec F S19968 .i32} (fw fb : Vec F S19968 .f32) {fx : Vec F S65536 .f32} {sx : Vec F S2048 .f32}
    (fo : Vec F S51200000 .f32) (hfi : ∀ t, InRange (win (F := F) (e := .i32) (16 * t) fi)) (hx : XSlice L fx sx)
    (O : CellTallies nD τ sig (HIx 1)) (W : Waits sig (HIx 1)) (r : Fin k0_t1_loop.trips) :
    rowInv d L fi fw fb sx (outVal fi fw fb fx) fo O W r.val
      ⊢ WP d L (rowProg oM sI sW sB sX h0M h1M cc0_scratch6 cc0_scratch7 r)
        fun _ => rowInv d L fi fw fb sx (outVal fi fw fb fx) fo O W (r.val + 1) := by
  unfold rowInv
  rw [raw_split]
  iintro ⟨#Hmw, HT, Hx, HO, HD, ⟨HP, HR⟩, HU⟩
  unfold upTo
  icases HU with (⟨%h0, Hf⟩ | ⟨%q, %hq, Hf⟩)
  · have hn : ¬ hasPrev r := fun h => by have := (hasPrev_iff r).1 h; omega
    rw [rowProg_first _ _ _ _ _ _ _ _ _ _ _ hn]
    iapply (wp_wand_r frame (wpE defs₀ 𝒱₀ (thr d L) none) Set.univ)
    isplitl [HT Hx Hf HP]
    · iapply (wp_rowRest r fw fb fo hfi hx)
      isplitl [HT]; · iexact HT
      isplitl [Hx]; · iexact Hx
      isplitl [Hf]; · iexact Hf
      iexact HP
    iintro %_ ⟨HT, Hx, HF⟩
    isplitr; · iexact Hmw
    isplitl [HT]; · iexact HT
    isplitl [Hx]; · iexact Hx
    isplitl [HO]; · iexact HO
    isplitl [HD]
    · have e : (Finset.univ.filter fun q : Fin k0_t1_loop.trips => q.val + 1 < r.val)
          = (Finset.univ.filter fun q : Fin k0_t1_loop.trips => q.val + 1 < r.val + 1) := by
        ext q
        simp only [Finset.mem_filter, Finset.mem_univ, true_and]
        omega
      iapply (Entails.of_eq (congrArg (fun s => bigSep s (rowPts d L (outVal fi fw fb fx))) e)) $$ HD
    isplitl [HR]; · iexact HR
    iright
    iexists r
    isplitr
    · ipureintro; rfl
    · iexact HF
  · have hp : hasPrev r := (hasPrev_iff r).2 (by omega)
    rw [rowProg_prev _ _ _ _ _ _ _ _ _ _ _ hp]
    iapply (wp_waits q (outVal fi fw fb fx) O W) $$ [Hf HO]
    · isplitr; · iexact Hmw
      isplitl [Hf] <;> iassumption
    iintro ⟨Hf, HQ, HO⟩
    iapply (wp_wand_r frame (wpE defs₀ 𝒱₀ (thr d L) none) Set.univ)
    isplitl [HT Hx Hf HP]
    · iapply (wp_rowRest r fw fb fo hfi hx)
      isplitl [HT]; · iexact HT
      isplitl [Hx]; · iexact Hx
      isplitl [Hf]; · iexact Hf
      iexact HP
    iintro %_ ⟨HT, Hx, HF⟩
    isplitr; · iexact Hmw
    isplitl [HT]; · iexact HT
    isplitl [Hx]; · iexact Hx
    isplitl [HO]; · iexact HO
    isplitl [HD HQ]
    · have e : (Finset.univ.filter fun p : Fin k0_t1_loop.trips => p.val < q.val + 1)
          = (Finset.univ.filter fun p : Fin k0_t1_loop.trips => p.val + 1 < r.val + 1) := by
        ext p
        simp only [Finset.mem_filter, Finset.mem_univ, true_and]
        omega
      iapply (Entails.of_eq (congrArg (fun s => bigSep s (rowPts d L (outVal fi fw fb fx))) e))
      iapply (Entails.of_eq (done_split (outVal fi fw fb fx) q).symm)
      isplitl [HQ]; · iexact HQ
      rw [hq]
      iexact HD
    isplitl [HR]; · iexact HR
    iright
    iexists r
    isplitr
    · ipureintro; rfl
    · iexact HF

/-- The row loop and the last waits: every row of the tile ends at its final values. -/
theorem wp_rows {fi : Vec F S19968 .i32} (fw fb : Vec F S19968 .f32) {fx : Vec F S65536 .f32} {sx : Vec F S2048 .f32}
    (fo : Vec F S51200000 .f32) (hfi : ∀ t, InRange (win (F := F) (e := .i32) (16 * t) fi)) (hx : XSlice L fx sx)
    (O : CellTallies nD τ sig (HIx 1)) (W : Waits sig (HIx 1)) {Q : PUnit → sProp 𝕄} :
    iprop(Transfers.MayWaits (thr d L) (none : HIx 1) O ∗ tabs d L fi fw fb ∗ sxPts d L sx ∗ owing d L O W
        ∗ bigSep Finset.univ (rowPts d L fo) ∗ free d L)
      ⊢ iprop((iprop(tabs d L fi fw fb ∗ sxPts d L sx ∗ owing d L O W ∗ bigSep Finset.univ (rowPts d L (outVal fi fw fb fx)) ∗ free d L) -∗ Q ⟨⟩)
        -∗ WP d L (Scf.Loop.for k0_t1_loop k0_t1_ok (⟨⟩ : Unit) (fun r _ => rowProg oM sI sW sB sX h0M h1M cc0_scratch6 cc0_scratch7 r)
          >>= fun _ => waits oM h0M h1M cc0_scratch6 cc0_scratch7 >>= fun _ => pure ⟨⟩) Q) := by
  iintro ⟨#Hmw, HT, Hx, HO, HR, Hf⟩ Hk
  iapply (Scf.wp_for_bind frame (wpE defs₀ 𝒱₀ (thr d L) none) Set.univ k0_t1_loop.lb k0_t1_loop.ub k0_t1_loop.st k0_t1_ok _ _
    (fun g (_ : Unit) => rowInv d L fi fw fb sx (outVal fi fw fb fx) fo O W g) ?hbody) $$ [HT Hx HO HR Hf]
  case hbody =>
    intro r _
    exact wp_row fw fb fo hfi hx O W r
  · unfold rowInv
    isplitr; · iexact Hmw
    isplitl [HT]; · iexact HT
    isplitl [Hx]; · iexact Hx
    isplitl [HO]; · iexact HO
    isplitr
    · have e : (Finset.univ.filter fun q : Fin k0_t1_loop.trips => q.val + 1 < 0) = ∅ := by
        ext q
        simp
      iapply (Entails.of_eq (congrArg (fun s => bigSep s (rowPts d L (outVal fi fw fb fx))) e).symm)
      iapply (Entails.of_eq (bigSep_empty (Φ := rowPts d L (outVal fi fw fb fx))).symm)
      iempintro
    isplitl [HR]
    · have e : (Finset.univ.filter fun q : Fin k0_t1_loop.trips => 0 ≤ q.val) = Finset.univ := by
        ext q
        simp
      iapply (Entails.of_eq (congrArg (fun s => bigSep s (rowPts d L fo)) e).symm) $$ HR
    · unfold upTo
      ileft
      isplitr
      · ipureintro; rfl
      · iexact Hf
  iintro %_ HI
  unfold rowInv
  icases HI with ⟨-, HT, Hx, HO, HD, -, HU⟩
  unfold upTo
  icases HU with (⟨%h0, Hf⟩ | ⟨%q, %hq, Hf⟩)
  · exact absurd h0 (by decide +kernel)
  iapply (wp_waits q (outVal fi fw fb fx) O W) $$ [Hf HO]
  · isplitr; · iexact Hmw
    isplitl [Hf] <;> iassumption
  iintro ⟨Hf, HQ, HO⟩
  iapply WP_ret
  iapply Hk
  isplitl [HT]; · iexact HT
  isplitl [Hx]; · iexact Hx
  isplitl [HO]; · iexact HO
  isplitl [HD HQ]
  · have e : (Finset.univ.filter fun p : Fin k0_t1_loop.trips => p.val < q.val + 1) = Finset.univ := by
      ext p
      simp only [Finset.mem_filter, Finset.mem_univ, true_and, iff_true]
      have h := p.isLt
      have hq' : k0_t1_loop.trips = q.val + 1 := hq
      omega
    iapply (Entails.of_eq (congrArg (fun s => bigSep s (rowPts d L (outVal fi fw fb fx))) e))
    iapply (Entails.of_eq (done_split (outVal fi fw fb fx) q).symm)
    isplitl [HQ]; · iexact HQ
    rw [← hq]
    iexact HD
  · iexact Hf

end Cert.Proof

end
-- ==== Proof.Tile.lean ====
/-
  The task of one tile: the tables and its slice of the splats fetched, then its rows.
-/
module

public import proofs.«01_k».proof.Proof.Rows

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

section Scoped

variable (d : Dev nD) (L : grid0.Coords)

/-- A tile's six cells in the order its task uses them. -/
abbrev cell (sm : SemLoc sig) : GSem nD τ sig := (thr d L, sm)
abbrev semI : SemLoc sig := .dma cc0_scoped0.sem
abbrev semW : SemLoc sig := .dma cc0_scoped1.sem
abbrev semB : SemLoc sig := .dma cc0_scoped2.sem
abbrev semX : SemLoc sig := .dma cc0_scoped3.sem

/-- A separating conjunction over a set, six of its members taken out. -/
theorem bigSep_six {M : Type} [URA M] {I : Type} [DecidableEq I] {s : Finset I} {a b c e f g : I} (Φ : I → sProp M) (hd : [a, b, c, e, f, g].Nodup)
    (hs : ∀ x ∈ [a, b, c, e, f, g], x ∈ s) :
    bigSep s Φ = iprop(Φ a ∗ Φ b ∗ Φ c ∗ Φ e ∗ Φ f ∗ Φ g ∗ bigSep (s \ {a, b, c, e, f, g}) Φ) := by
  simp only [List.nodup_cons, List.mem_cons, List.not_mem_nil, or_false, not_or, not_false_eq_true, List.nodup_nil, and_true] at hd
  obtain ⟨⟨ab, ac, ae, af, ag⟩, ⟨bc, be, bf, bg⟩, ⟨ce, cf, cg⟩, ⟨ef, eg⟩, fg⟩ := hd
  have ht : ({a, b, c, e, f, g} : Finset I) ⊆ s := by
    intro x hx
    simp only [Finset.mem_insert, Finset.mem_singleton] at hx
    exact hs x (by simpa using hx)
  rw [SparseCore.bigSep_sdiff_split' ht, SparseCore.bigSep_insert' (by simp [ab, ac, ae, af, ag]), SparseCore.bigSep_insert' (by simp [bc, be, bf, bg]),
    SparseCore.bigSep_insert' (by simp [ce, cf, cg]), SparseCore.bigSep_insert' (by simp [ef, eg]), SparseCore.bigSep_insert' (by simp [fg]), bigSep_singleton]
  have assoc (P Q R : sProp M) : iprop((P ∗ Q) ∗ R) = iprop(P ∗ Q ∗ R) :=
    equiv_iff.mp ⟨BI.sep_assoc, BI.sep_assoc'⟩
  simp only [assoc]

/-- A tile's six cells, and the rest of its own. -/
theorem ownSems0_V :
    (ownSems0 (thr d L) : sProp 𝕄)
      = iprop(semVal (thr d L, semI) 0 ∗ semVal (thr d L, semW) 0 ∗ semVal (thr d L, semB) 0 ∗ semVal (thr d L, semX) 0
          ∗ semVal (thr d L, sem0) 0 ∗ semVal (thr d L, sem1) 0
          ∗ bigSep (ownCells (thr d L) \ {(thr d L, semI), (thr d L, semW), (thr d L, semB), (thr d L, semX), (thr d L, sem0), (thr d L, sem1)})
              fun g => semVal g 0) := by
  unfold SparseCore.Cfg.ownSems0
  refine bigSep_six (fun g => semVal g 0) ?_ ?_
  · have h : [semI, semW, semB, semX, sem0, sem1].Nodup := by decide
    exact h.map (f := fun sm : SemLoc sig => ((thr d L, sm) : GSem nD τ sig)) fun x y e => (Prod.mk.inj e).2
  · have h : ∀ sm ∈ [semI, semW, semB, semX, sem0, sem1], (sm : SemLoc sig).isScoped .scVector = true := by decide
    intro x hx
    obtain ⟨sm, hsm, rfl⟩ : ∃ sm ∈ [semI, semW, semB, semX, sem0, sem1], ((thr d L, sm) : GSem nD τ sig) = x := List.mem_map.mp hx
    exact mem_ownCells.mpr ⟨rfl, h sm hsm⟩

/-- A tile's six scratch buffers at some contents, and the rest of its own. -/
theorem ownBufs_V :
    (ownBufs (thr d L) : sProp 𝕄)
      = iprop((∃ f, sI.view.loc (thr d L) ↦{fullShare} f) ∗ (∃ f, sW.view.loc (thr d L) ↦{fullShare} f)
          ∗ (∃ f, sB.view.loc (thr d L) ↦{fullShare} f) ∗ (∃ f, sX.view.loc (thr d L) ↦{fullShare} f)
          ∗ (∃ f, h0M.view.loc (thr d L) ↦{fullShare} f) ∗ (∃ f, h1M.view.loc (thr d L) ↦{fullShare} f)
          ∗ bigSep (ownRefs (τ := τ) (.scVector (cV L) (jV L)) \ {(Proc.scVector (cV L) (jV L)).devRef cc0_scratch0,
              (Proc.scVector (cV L) (jV L)).devRef cc0_scratch1, (Proc.scVector (cV L) (jV L)).devRef cc0_scratch2,
              (Proc.scVector (cV L) (jV L)).devRef cc0_scratch3, (Proc.scVector (cV L) (jV L)).devRef cc0_scratch4,
              (Proc.scVector (cV L) (jV L)).devRef cc0_scratch5})
              fun b => iprop(∃ f, ((d, b) : Loc nD τ sig) ↦{fullShare} f)) := by
  unfold SparseCore.Cfg.ownBufs
  refine bigSep_six (fun b => iprop(∃ f, ((d, b) : Loc nD τ sig) ↦{fullShare} f)) ?_ ?_
  · have h : ([cc0_scratch0, cc0_scratch1, cc0_scratch2, cc0_scratch3, cc0_scratch4, cc0_scratch5] : List (Ref sig .scVector)).Nodup := by decide
    exact h.map (f := (Proc.scVector (cV L) (jV L)).devRef) (Proc.devRef_injective _)
  · intro x hx
    simp only [List.mem_cons, List.not_mem_nil, or_false] at hx
    rcases hx with rfl | rfl | rfl | rfl | rfl | rfl <;> exact SparseCore.Cfg.mem_ownRefs_of_owner (p := Proc.scVector (cV L) (jV L)) rfl

end Scoped

section Body

variable [FloatOps F] {d : Dev nD} {L : grid0.Coords}

/-- The tables and the splats as a tile reads them, at share `q`. -/
def inPts (d : Dev nD) (L : grid0.Coords) (q : PosShare TreeShare) (fi : Vec F S19968 .i32) (fw fb : Vec F S19968 .f32) (fx : Vec F S65536 .f32) :
    sProp 𝕄 :=
  iprop((idM.view.loc (thr d L) ↦{q} fi) ∗ (wM.view.loc (thr d L) ↦{q} fw) ∗ (bM.view.loc (thr d L) ↦{q} fb) ∗ (xM.view.loc (thr d L) ↦{q} fx))

theorem owing_intro {O : CellTallies nD τ sig (HIx 1)} {W : Waits sig (HIx 1)} : owes (thr d L) O W ⊢ (owing d L O W : sProp 𝕄) := by
  unfold owing
  iintro H
  iexists W
  isplitr
  · ipureintro; exact fun p hp => .inl hp
  · iexact H

/-- A copy waited for at once: the destination takes what the source reads. -/
theorem wp_sync {α : Type} {s : Shape} {e : EltTy} {sp sp' : Space} (src : Memref sig .scVector sp s e) (dst : Memref sig .scVector sp' s e)
    {sem : DmaSem sig} {hsrc : src.view.WordExact} {hdst : dst.view.WordExact} {hsem : DmaTarget.Typed (nD := nD) sp (.dma sem) (DmaTarget.here (p := .scVector (cV L) (jV L)) dst)}
    (hN : dst.view.dmaCredit = dst.view.amount (.dma sem)) (h0 : 0 < dst.view.amount (.dma sem))
    {q : PosShare TreeShare} {fs : Buf (Elt F) (src.view.loc (thr d L))} {fd : Buf (Elt F) (dst.view.loc (thr d L))}
    (v : Buf (Elt F) (dst.view.loc (thr d L))) (hv : dst.view.write (Elt F) fd (src.view.read (Elt F) fs) Finset.univ = v)
    {O : CellTallies nD τ sig (HIx 1)} {W : Waits sig (HIx 1)} {k : PUnit → TP F L α} {Q : α → sProp 𝕄} :
    iprop(Transfers.MayWaits (thr d L) (none : HIx 1) O ∗ (src.view.loc (thr d L) ↦{q} fs) ∗ (dst.view.loc (thr d L) ↦{fullShare} fd)
        ∗ semVal (thr d L, .dma sem) 0 ∗ owing d L O W)
      ⊢ iprop((iprop((src.view.loc (thr d L) ↦{q} fs) ∗ (dst.view.loc (thr d L) ↦{fullShare} v)
          ∗ semVal (thr d L, .dma sem) 0 ∗ owing d L O W) -∗ WP d L (k ⟨⟩) Q)
        -∗ WP d L (Prog.lift (.enqueueDma src (.here dst) (.dma sem) hsrc hdst hsem)
          >>= fun _ => Prog.lift (.waitDma2 sem src dst hsrc hdst) >>= k) Q) := by
  subst hv
  simp only [Prog.bind_lift]
  iintro ⟨#Hmw, Hs, Hd, Hv, HO⟩ Hk
  ihave Hs' := (pointsTo_split_subset (ℓ := src.view.loc (thr d L)) (Finset.subset_univ src.view.set)).1 $$ Hs
  icases Hs' with ⟨Hs, Hr⟩
  iapply (Transfers.wp_dmaLocal countersEmb 𝒱₀ (thr d L) none (src := src) (dst := dst) (sm := .dma sem)
    (none : HIx 1) (dst.view.amount (.dma sem)) rfl h0 (Finset.subset_univ _)) $$ [Hs Hd Hv]
  · isplitl [Hs]; · iexact Hs
    isplitl [Hd]; · iexact Hd
    iexact Hv
  iintro HF
  ihave HO' := owing_open $$ HO
  icases HO' with ⟨%W1, %hW1, HO⟩
  ihave Hm := (Transfers.MayWaits.elim (.dma sem)) $$ Hmw
  iapply (Transfers.wp_waitLocalO countersEmb 𝒱₀ (thr d L) none (none : HIx 1) (srcw := src) (dstw := dst)
    (N := dst.view.amount (.dma sem)) hN) $$ [HF HO Hm]
  · isplitl [HF]; · iexact HF
    isplitl [HO]; · iexact HO
    iexact Hm
  iintro ⟨⟨Hd, Hs⟩, Hv, HO⟩
  ihave HO := (owing_insert hW1) $$ HO
  iapply Hk
  isplitl [Hs Hr]
  · iapply (pointsTo_split_subset (ℓ := src.view.loc (thr d L)) (Finset.subset_univ src.view.set)).2
    isplitl [Hs] <;> iassumption
  isplitl [Hd]; · iexact Hd
  isplitl [Hv] <;> iassumption

/-- The tile's slice of the splats is where its rows' splats lie. -/
theorem xslice (L : grid0.Coords) (fx : Vec F S65536 .f32) :
    XSlice L fx ((xM.slice (Rect.unit (s := S65536) (k0_off1 L) S2048.size (k0_off1_inb L)) (fun _ => rfl)).view.read (Elt F) fx) := by
  intro j
  have hj : (j 0).val < 2048 := (j 0).isLt
  have h0 : (L 0).val < 2 := (L 0).isLt
  have h1 : (L 1).val < 16 := (L 1).isLt
  show fx ((Rect.unit (s := S65536) (k0_off1 L) S2048.size (k0_off1_inb L)).emb j) = _
  refine congrArg fx (funext fun a => ?_)
  have ha : a = 0 := Fin.eq_zero a
  subst ha
  apply Fin.ext
  show k0_off1 L 0 + 1 * (j 0).val = (64 * row0 L + (j 0).val) % 65536
  have e : k0_off1 L 0 = 4096 * (L 1).val + 2048 * (L 0).val := congrFun (k0_off1_eq L) 0
  unfold row0
  rw [e]
  omega

set_option maxRecDepth 4096 in
/-- The task of a tile: its rows end at the kernel's values. -/
theorem tile_body (q : PosShare TreeShare) (fi : Vec F S19968 .i32) (fw fb : Vec F S19968 .f32) (fx : Vec F S65536 .f32) (fo : Vec F S51200000 .f32)
    (hfi : ∀ t, InRange (win (F := F) (e := .i32) (16 * t) fi))
    (O : CellTallies nD τ sig (HIx 1)) (W : Waits sig (HIx 1)) (hO : ∀ g, O g none = 0) :
    iprop(levAts (K (F := F)).L (K (F := F)).lev ∗ emp
        ∗ (inPts d L q fi fw fb fx ∗ bigSep Finset.univ (rowPts d L fo))
        ∗ scopedBufs (thr d L) ∗ scopedSems0 (thr d L) ∗ owes (thr d L) O W)
      ⊢ wp frame (wpE (defs₀ (F := F)) 𝒱₀ (thr d L) none) Set.univ
          (cc0__sc_body L idM (Memref.isWhole_whole _) wM (Memref.isWhole_whole _) bM (Memref.isWhole_whole _) xM (Memref.isWhole_whole _)
            oM (Memref.isWhole_whole _) sI (Memref.isWhole_whole _) sW (Memref.isWhole_whole _) sB (Memref.isWhole_whole _) sX (Memref.isWhole_whole _)
            h0M (Memref.isWhole_whole _) h1M (Memref.isWhole_whole _) cc0_scratch6 cc0_scratch7 cc0_scoped0 cc0_scoped1 cc0_scoped2 cc0_scoped3)
          fun _ => iprop((inPts d L q fi fw fb fx ∗ bigSep Finset.univ (rowPts d L (outVal fi fw fb fx)))
            ∗ scopedBufs (thr d L) ∗ scopedSems0 (thr d L) ∗ ∃ W', ⌜∀ p ∈ W', p ∈ W ∨ p.2 = none⌝ ∗ owes (thr d L) O W') := by
  simp only [cc0__sc_body_eq_skeleton]; unfold cc0__sc_body_skel
  rw [(K (F := F)).scopedBufs_V facts d (cV L) (jV L), SparseCore.Cfg.scopedSems0_V (Val := Elt F) d (cV L) (jV L), ownSems0_V, ownBufs_V]
  unfold inPts
  iintro ⟨#Hlv, -, ⟨⟨Hi, Hw, Hb, Hx⟩, HR⟩,
    ⟨⟨%gi, Hsi⟩, ⟨%gw, Hsw⟩, ⟨%gb, Hsb⟩, ⟨%gx, Hsx⟩, ⟨%g0, H0⟩, ⟨%g1, H1⟩, Hbufs⟩, ⟨Ci, Cw, Cb, Cx, C0, C1, Hsems⟩, HO⟩
  ihave #Hmw := ((K (F := F)).mayWaits_none (thr := thr d L) hO) $$ Hlv
  ihave HO := (owing_intro (d := d) (L := L) (O := O) (W := W)) $$ HO
  simp only [t1_eq]
  iapply (wp_sync idM sI rfl (View.amount_pos _ _ (show 0 < S19968.numel by decide)) fi (View.write_whole_univ _ _ _)) $$ [Hi Hsi Ci HO]
  · isplitr; · iexact Hmw
    isplitl [Hi]; · iexact Hi
    isplitl [Hsi]; · iexact Hsi
    isplitl [Ci] <;> iassumption
  iintro ⟨Hi, Hsi, Ci, HO⟩
  iapply (wp_sync wM sW rfl (View.amount_pos _ _ (show 0 < S19968.numel by decide)) fw (View.write_whole_univ _ _ _)) $$ [Hw Hsw Cw HO]
  · isplitr; · iexact Hmw
    isplitl [Hw]; · iexact Hw
    isplitl [Hsw]; · iexact Hsw
    isplitl [Cw] <;> iassumption
  iintro ⟨Hw, Hsw, Cw, HO⟩
  iapply (wp_sync bM sB rfl (View.amount_pos _ _ (show 0 < S19968.numel by decide)) fb (View.write_whole_univ _ _ _)) $$ [Hb Hsb Cb HO]
  · isplitr; · iexact Hmw
    isplitl [Hb]; · iexact Hb
    isplitl [Hsb]; · iexact Hsb
    isplitl [Cb] <;> iassumption
  iintro ⟨Hb, Hsb, Cb, HO⟩
  iapply (wp_sync (xM.slice (Rect.unit (s := S65536) (k0_off1 L) S2048.size (k0_off1_inb L)) (fun _ => rfl)) sX rfl
    (View.amount_pos _ _ (show 0 < S2048.numel by decide)) _ (View.write_whole_univ _ _ _)) $$ [Hx Hsx Cx HO]
  · isplitr; · iexact Hmw
    isplitl [Hx]; · iexact Hx
    isplitl [Hsx]; · iexact Hsx
    isplitl [Cx] <;> iassumption
  iintro ⟨Hx, Hsx, Cx, HO⟩
  iapply (wp_rows fw fb fo hfi (xslice L fx) O W) $$ [Hsi Hsw Hsb Hsx H0 H1 C0 C1 HO HR]
  · unfold tabs free
    isplitr; · iexact Hmw
    isplitl [Hsi Hsw Hsb]
    · isplitl [Hsi]; · iexact Hsi
      isplitl [Hsw] <;> iassumption
    isplitl [Hsx]; · iexact Hsx
    isplitl [HO]; · iexact HO
    isplitl [HR]; · iexact HR
    isplitl [H0]; · iexists g0; iexact H0
    isplitl [H1]; · iexists g1; iexact H1
    isplitl [C0] <;> iassumption
  unfold tabs free owing
  iintro ⟨⟨Hsi, Hsw, Hsb⟩, Hsx, HO, HR, H0, H1, C0, C1⟩
  isplitl [Hi Hw Hb Hx HR]
  · isplitl [Hi Hw Hb Hx]
    · isplitl [Hi]; · iexact Hi
      isplitl [Hw]; · iexact Hw
      isplitl [Hb] <;> iassumption
    · iexact HR
  isplitl [Hsi Hsw Hsb Hsx H0 H1 Hbufs]
  · isplitl [Hsi]; · iexists fi; iexact Hsi
    isplitl [Hsw]; · iexists fw; iexact Hsw
    isplitl [Hsb]; · iexists fb; iexact Hsb
    isplitl [Hsx]; · iexists _; iexact Hsx
    isplitl [H0]; · iexact H0
    isplitl [H1] <;> iassumption
  isplitl [Ci Cw Cb Cx C0 C1 Hsems]
  · isplitl [Ci]; · iexact Ci
    isplitl [Cw]; · iexact Cw
    isplitl [Cb]; · iexact Cb
    isplitl [Cx]; · iexact Cx
    isplitl [C0]; · iexact C0
    isplitl [C1] <;> iassumption
  iexact HO

end Body

end Cert.Proof

end
-- ==== Proof.Launch.lean ====
/-
  The launch: what the call hands each SparseCore and each tile, and the obligations of the launch theorem.  A tile gets
  a read share of the entries and of the splats, and its own rows of the output.
-/
module

public import proofs.«01_k».proof.Proof.Tile

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The grid position of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem row0_coords (c : Fin (grid0.bound 0)) (s : Fin (grid0.bound 1)) : row0 (coordsV c s) = 64 * s.val + 32 * c.val := rfl

omit [FloatOps F] in
theorem eq_of_both {P Q : sProp 𝕄} (h : P ⊣⊢ Q) : P = Q := equiv_iff.mp ⟨h.1, h.2⟩

/-- Five separating conjunctions over the tiles, out of the one of their conjunctions. -/
theorem sep_tiles (A B C E R : Fin (grid0.bound 0) → Fin (grid0.bound 1) → sProp 𝕄) :
    (bigSep Finset.univ fun c => bigSep Finset.univ fun s => iprop((A c s ∗ B c s ∗ C c s ∗ E c s) ∗ R c s))
      = iprop(((bigSep Finset.univ fun c => bigSep Finset.univ fun s => A c s) ∗ (bigSep Finset.univ fun c => bigSep Finset.univ fun s => B c s)
          ∗ (bigSep Finset.univ fun c => bigSep Finset.univ fun s => C c s) ∗ (bigSep Finset.univ fun c => bigSep Finset.univ fun s => E c s))
        ∗ (bigSep Finset.univ fun c => bigSep Finset.univ fun s => R c s)) := by
  simp only [bigSep_sep']

/-! ## The rows of the output, tile by tile -/

/-- Where row `r` of the tile at `L` lies. -/
def rowSet (L : grid0.Coords) (r : Fin k0_t1_loop.trips) : Finset S51200000.Idx := (outA L r).view.set ∪ (outB L r).view.set

theorem mem_outA (L : grid0.Coords) (r : Fin k0_t1_loop.trips) (p : S51200000.Idx) :
    p ∈ (outA L r).view.set ↔ 50000 * (row0 L + r.val) ≤ (p 0).val ∧ (p 0).val < 50000 * (row0 L + r.val) + 25088 := by
  have e0 : ∀ j, (((outA L r).view.emb j) 0).val = 50000 * (row0 L + r.val) + (j 0).val := by
    intro j
    have e1 : (((outA L r).view.emb j) 0).val = k0_off9 L r 0 + 1 * (j 0).val := rfl
    have e2 : k0_off9 L r 0 = 3200000 * (L 1).val + 1600000 * (L 0).val + 50000 * r.val := congrFun (k0_off9_eq L r) 0
    rw [e1, e2]
    unfold row0
    omega
  constructor
  · intro hp
    obtain ⟨j, -, rfl⟩ := Finset.mem_map.mp hp
    have hj : (j 0).val < 25088 := (j 0).isLt
    rw [e0]
    omega
  · rintro ⟨h1, h2⟩
    refine Finset.mem_map.mpr ⟨Shape.ofLane (d := ![25088]) ⟨(p 0).val - 50000 * (row0 L + r.val), by show _ < 25088; omega⟩, Finset.mem_univ _, ?_⟩
    funext a
    have ha : a = 0 := Fin.eq_zero a
    subst ha
    apply Fin.ext
    rw [e0]
    show 50000 * (row0 L + r.val) + ((p 0).val - 50000 * (row0 L + r.val)) = (p 0).val
    omega

theorem mem_outB (L : grid0.Coords) (r : Fin k0_t1_loop.trips) (p : S51200000.Idx) :
    p ∈ (outB L r).view.set ↔ 50000 * (row0 L + r.val) + 25088 ≤ (p 0).val ∧ (p 0).val < 50000 * (row0 L + r.val) + 50000 := by
  have e0 : ∀ j, (((outB L r).view.emb j) 0).val = 50000 * (row0 L + r.val) + 25088 + (j 0).val := by
    intro j
    have e1 : (((outB L r).view.emb j) 0).val = k0_off10 L r 0 + 1 * (j 0).val := rfl
    have e2 : k0_off10 L r 0 = 3200000 * (L 1).val + 1600000 * (L 0).val + 50000 * r.val + 25088 := congrFun (k0_off10_eq L r) 0
    rw [e1, e2]
    unfold row0
    omega
  constructor
  · intro hp
    obtain ⟨j, -, rfl⟩ := Finset.mem_map.mp hp
    have hj : (j 0).val < 24912 := (j 0).isLt
    rw [e0]
    omega
  · rintro ⟨h1, h2⟩
    refine Finset.mem_map.mpr ⟨Shape.ofLane (d := ![24912]) ⟨(p 0).val - (50000 * (row0 L + r.val) + 25088), by show _ < 24912; omega⟩, Finset.mem_univ _, ?_⟩
    funext a
    have ha : a = 0 := Fin.eq_zero a
    subst ha
    apply Fin.ext
    rw [e0]
    show 50000 * (row0 L + r.val) + 25088 + ((p 0).val - (50000 * (row0 L + r.val) + 25088)) = (p 0).val
    omega

/-- A row's elements are those whose number divided by 50000 is the row's. -/
theorem mem_rowSet (L : grid0.Coords) (r : Fin k0_t1_loop.trips) (p : S51200000.Idx) : p ∈ rowSet L r ↔ (p 0).val / 50000 = row0 L + r.val := by
  unfold rowSet
  rw [Finset.mem_union, mem_outA, mem_outB]
  omega

variable (d : Dev nD)

/-- A tile's row of the output is one piece of it. -/
theorem rowPts_eq (L : grid0.Coords) (f : Vec F S51200000 .f32) (r : Fin k0_t1_loop.trips) :
    (rowPts d L f r : sProp 𝕄) = (oLoc d ↦[rowSet L r]{fullShare} f) := by
  unfold rowPts rowSet
  have hd : Disjoint (outA L r).view.set (outB L r).view.set := by
    refine Finset.disjoint_left.mpr fun p h1 h2 => ?_
    have := (mem_outA L r p).mp h1
    have := (mem_outB L r p).mp h2
    omega
  exact (eq_of_both (pointsTo_union (ℓ := oLoc d) hd)).symm

abbrev Cell : Type := Fin (grid0.bound 0) × Fin (grid0.bound 1) × Fin k0_t1_loop.trips

/-- The rows of all tiles. -/
def cellSet (t : Cell) : Finset S51200000.Idx := rowSet (coordsV t.1 t.2.1) t.2.2

theorem mem_cellSet (t : Cell) (p : S51200000.Idx) : p ∈ cellSet t ↔ (p 0).val / 50000 = 64 * t.2.1.val + 32 * t.1.val + t.2.2.val := mem_rowSet _ _ _

theorem cells_disjoint : ∀ t ∈ (Finset.univ : Finset Cell), ∀ t' ∈ (Finset.univ : Finset Cell), t ≠ t' → Disjoint (cellSet t) (cellSet t') := by
  rintro ⟨c, s, r⟩ - ⟨c', s', r'⟩ - h
  refine Finset.disjoint_left.mpr fun p h1 h2 => h ?_
  have e1 := (mem_cellSet _ p).mp h1
  have e2 := (mem_cellSet _ p).mp h2
  have hc : c.val < 2 := c.isLt
  have hc' : c'.val < 2 := c'.isLt
  have hr : r.val < 32 := lt_of_lt_of_eq r.isLt rows_eq
  have hr' : r'.val < 32 := lt_of_lt_of_eq r'.isLt rows_eq
  dsimp only at e1 e2
  have a1 : c = c' := Fin.ext (by omega)
  have a2 : s = s' := Fin.ext (by omega)
  have a3 : r = r' := Fin.ext (by omega)
  rw [a1, a2, a3]

theorem cells_cover : (Finset.univ : Finset Cell).biUnion cellSet = Finset.univ := by
  refine Finset.eq_univ_iff_forall.mpr fun p => ?_
  have hp : (p 0).val < 51200000 := (p 0).isLt
  rw [Finset.mem_biUnion]
  have h32 : (p 0).val / 50000 % 32 < k0_t1_loop.trips := by rw [rows_eq]; omega
  refine ⟨(⟨(p 0).val / 50000 / 32 % 2, by show _ < 2; omega⟩, ⟨(p 0).val / 50000 / 64, by show _ < 16; omega⟩, ⟨(p 0).val / 50000 % 32, h32⟩),
    Finset.mem_univ _, (mem_cellSet _ p).mpr ?_⟩
  show (p 0).val / 50000 = 64 * ((p 0).val / 50000 / 64) + 32 * ((p 0).val / 50000 / 32 % 2) + (p 0).val / 50000 % 32
  omega

/-- The output is its rows, tile by tile. -/
theorem oPts_cells (f : Vec F S51200000 .f32) :
    (oLoc d ↦{fullShare} f : sProp 𝕄)
      = bigSep Finset.univ fun c : Fin (grid0.bound 0) => bigSep Finset.univ fun s : Fin (grid0.bound 1) => bigSep Finset.univ (rowPts d (coordsV c s) f) := by
  have h : (oLoc d ↦{fullShare} f : sProp 𝕄) = bigSep Finset.univ fun t : Cell => (oLoc d ↦[cellSet t]{fullShare} f) := by
    rw [← pointsTo_biUnion Finset.univ (ℓ := oLoc d) cellSet cells_disjoint, cells_cover]
  rw [h, ← Finset.univ_product_univ, SparseCore.bigSep_product]
  refine bigSep_congr fun c _ => ?_
  rw [← Finset.univ_product_univ, SparseCore.bigSep_product]
  refine bigSep_congr fun s _ => ?_
  exact bigSep_congr fun r _ => (rowPts_eq d (coordsV c s) f r).symm

/-! ## The read shares -/

/-- The share of the arrays all tiles read that tile `s` of SparseCore `c` holds. -/
def tok (c : Fin (grid0.bound 0)) (s : Fin (grid0.bound 1)) : PosShare TreeShare :=
  Transfers.shareTok fullShare (grid0.bound 0 * grid0.bound 1) (finProdFinEquiv (c, s))

/-- What the TensorCore keeps of them during the call. -/
def kept : PosShare TreeShare := Transfers.shareDrop fullShare (grid0.bound 0 * grid0.bound 1)

theorem pts_toks (ℓ : Loc nD τ sig) (f : Buf (Elt F) ℓ) :
    (ℓ ↦{fullShare} f : sProp 𝕄)
      = iprop((ℓ ↦{kept} f) ∗ bigSep Finset.univ fun c : Fin (grid0.bound 0) => bigSep Finset.univ fun s : Fin (grid0.bound 1) => (ℓ ↦{tok c s} f)) := by
  have h := eq_of_both (Transfers.pointsTo_toks (Ix := HIx 1) (Name := ℕ) (U := UU) (Lvl := ℕ) (ℓ := ℓ) (S := Finset.univ) (f := f) fullShare (grid0.bound 0 * grid0.bound 1))
  rw [h, BI.bigSep_univ_equiv finProdFinEquiv, ← Finset.univ_product_univ, SparseCore.bigSep_product]
  rfl

/-! ## What the handshakes carry -/

/-- What a tile works with, its rows of the output at `f`. -/
def tileHas (fi : Vec F S19968 .i32) (fw fb : Vec F S19968 .f32) (fx : Vec F S65536 .f32) (f : Vec F S51200000 .f32)
    (c : Fin (grid0.bound 0)) (s : Fin (grid0.bound 1)) : sProp 𝕄 :=
  iprop(inPts d (coordsV c s) (tok c s) fi fw fb fx ∗ bigSep Finset.univ (rowPts d (coordsV c s) f))

/-- What a SparseCore works with. -/
def coreHas (fi : Vec F S19968 .i32) (fw fb : Vec F S19968 .f32) (fx : Vec F S65536 .f32) (f : Vec F S51200000 .f32)
    (c : Fin (grid0.bound 0)) : sProp 𝕄 := bigSep Finset.univ fun s => tileHas d fi fw fb fx f c s

/-- What stays with the TensorCore. -/
def tcKeeps (fi : Vec F S19968 .i32) (fw fb : Vec F S19968 .f32) (fx : Vec F S65536 .f32) : sProp 𝕄 :=
  iprop((iLoc d ↦{kept} fi) ∗ (wLoc d ↦{kept} fw) ∗ (bLoc d ↦{kept} fb) ∗ (xLoc d ↦{kept} fx))

theorem inPts_def (c : Fin (grid0.bound 0)) (s : Fin (grid0.bound 1)) (q : PosShare TreeShare) (fi : Vec F S19968 .i32) (fw fb : Vec F S19968 .f32) (fx : Vec F S65536 .f32) :
    (inPts d (coordsV c s) q fi fw fb fx : sProp 𝕄)
      = iprop((iLoc d ↦{q} fi) ∗ (wLoc d ↦{q} fw) ∗ (bLoc d ↦{q} fb) ∗ (xLoc d ↦{q} fx)) := rfl

/-- The arrays of the call are what the TensorCore keeps and what the SparseCores work with. -/
theorem dealt (fi : Vec F S19968 .i32) (fw fb : Vec F S19968 .f32) (fx : Vec F S65536 .f32) (f : Vec F S51200000 .f32) :
    (iprop(((iLoc d ↦{fullShare} fi) ∗ (wLoc d ↦{fullShare} fw) ∗ (bLoc d ↦{fullShare} fb) ∗ (xLoc d ↦{fullShare} fx)) ∗ (oLoc d ↦{fullShare} f)) : sProp 𝕄)
      ⊣⊢ iprop(tcKeeps d fi fw fb fx ∗ bigSep Finset.univ (coreHas d fi fw fb fx f)) := by
  have h : (bigSep Finset.univ (coreHas d fi fw fb fx f) : sProp 𝕄)
      = iprop(((bigSep Finset.univ fun c : Fin (grid0.bound 0) => bigSep Finset.univ fun s : Fin (grid0.bound 1) => (iLoc d ↦{tok c s} fi))
          ∗ (bigSep Finset.univ fun c : Fin (grid0.bound 0) => bigSep Finset.univ fun s : Fin (grid0.bound 1) => (wLoc d ↦{tok c s} fw))
          ∗ (bigSep Finset.univ fun c : Fin (grid0.bound 0) => bigSep Finset.univ fun s : Fin (grid0.bound 1) => (bLoc d ↦{tok c s} fb))
          ∗ (bigSep Finset.univ fun c : Fin (grid0.bound 0) => bigSep Finset.univ fun s : Fin (grid0.bound 1) => (xLoc d ↦{tok c s} fx)))
        ∗ (oLoc d ↦{fullShare} f)) := by
    rw [oPts_cells]
    exact sep_tiles (fun c s => (iLoc d ↦{tok c s} fi)) (fun c s => (wLoc d ↦{tok c s} fw)) (fun c s => (bLoc d ↦{tok c s} fb))
      (fun c s => (xLoc d ↦{tok c s} fx)) (fun c s => bigSep Finset.univ (rowPts d (coordsV c s) f))
  rw [h]
  unfold tcKeeps
  rw [pts_toks (iLoc d), pts_toks (wLoc d), pts_toks (bLoc d), pts_toks (xLoc d)]
  constructor
  · iintro ⟨⟨⟨Ki, Ti⟩, ⟨Kw, Tw⟩, ⟨Kb, Tb⟩, ⟨Kx, Tx⟩⟩, Ho⟩
    isplitl [Ki Kw Kb Kx]
    · isplitl [Ki]; · iexact Ki
      isplitl [Kw]; · iexact Kw
      isplitl [Kb] <;> iassumption
    isplitl [Ti Tw Tb Tx]
    · isplitl [Ti]; · iexact Ti
      isplitl [Tw]; · iexact Tw
      isplitl [Tb] <;> iassumption
    iexact Ho
  · iintro ⟨⟨Ki, Kw, Kb, Kx⟩, ⟨Ti, Tw, Tb, Tx⟩, Ho⟩
    isplitr [Ho]
    · isplitl [Ki Ti]; · isplitl [Ki] <;> iassumption
      isplitl [Kw Tw]; · isplitl [Kw] <;> iassumption
      isplitl [Kb Tb]; · isplitl [Kb] <;> iassumption
      isplitl [Kx] <;> iassumption
    iexact Ho

section Call

variable (fi : Dev nD → Vec F S19968 .i32) (fw fb : Dev nD → Vec F S19968 .f32) (fx : Dev nD → Vec F S65536 .f32) (fo : Dev nD → Vec F S51200000 .f32)

/-- The output after the call. -/
def out (d : Dev nD) : Vec F S51200000 .f32 := outVal (fi d) (fw d) (fb d) (fx d)

/-- The call takes the output as it was and brings it back at the kernel's values. -/
def P : (K (F := F)).Pay (nD := nD) (Val := Elt F) (Name := ℕ) (U := UU) where
  st := fun q d c => match q with | 0 => coreHas d (fi d) (fw d) (fb d) (fx d) (fo d) c
  dn := fun q d c => match q with | 0 => coreHas d (fi d) (fw d) (fb d) (fx d) (out fi fw fb fx d) c
  go := fun q d c i => match q with | 0 => tileHas d (fi d) (fw d) (fb d) (fx d) (fo d) c i
  td := fun q d c i => match q with | 0 => tileHas d (fi d) (fw d) (fb d) (fx d) (out fi fw fb fx d) c i
  x := fun _ _ => iprop(emp)

instance tileHas_storable (d : Dev nD) (gi : Vec F S19968 .i32) (gw gb : Vec F S19968 .f32) (gx : Vec F S65536 .f32) (f : Vec F S51200000 .f32)
    (c : Fin (grid0.bound 0)) (s : Fin (grid0.bound 1)) : BI.Storable (upEmb : UEmb _ 𝕄) (tileHas d gi gw gb gx f c s) := by
  unfold tileHas inPts rowPts
  infer_instance

instance coreHas_storable (d : Dev nD) (gi : Vec F S19968 .i32) (gw gb : Vec F S19968 .f32) (gx : Vec F S65536 .f32) (f : Vec F S51200000 .f32)
    (c : Fin (grid0.bound 0)) : BI.Storable (upEmb : UEmb _ 𝕄) (coreHas d gi gw gb gx f c) := by
  unfold coreHas
  infer_instance

instance P_storable : (P fi fw fb fx fo).IsStorable where
  st q d c := match q with
    | 0 => coreHas_storable d (fi d) (fw d) (fb d) (fx d) (fo d) c
  dn q d c := match q with
    | 0 => coreHas_storable d (fi d) (fw d) (fb d) (fx d) (out fi fw fb fx d) c
  go q d c i := match q with
    | 0 => tileHas_storable d (fi d) (fw d) (fb d) (fx d) (fo d) c i
  td q d c i := match q with
    | 0 => tileHas_storable d (fi d) (fw d) (fb d) (fx d) (out fi fw fb fx d) c i

/-! ## The launch theorem's obligations -/

theorem defs₀_vector (c : Fin τ.nSC) (s : Fin τ.nSub) :
    defs₀ (F := F) (.scVector c s) 0 ()
      = SparseCore.onTile hcore0 hsub0 (fun c s => cc0__sc_body (coordsV c s)
          idM (Memref.isWhole_whole _) wM (Memref.isWhole_whole _) bM (Memref.isWhole_whole _) xM (Memref.isWhole_whole _)
          oM (Memref.isWhole_whole _) sI (Memref.isWhole_whole _) sW (Memref.isWhole_whole _) sB (Memref.isWhole_whole _) sX (Memref.isWhole_whole _)
          h0M (Memref.isWhole_whole _) h1M (Memref.isWhole_whole _) cc0_scratch6 cc0_scratch7 cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 4096 in
theorem tileObl (hfi : ∀ d t, InRange (win (F := F) (e := .i32) (16 * t) (fi d))) : (K (F := F)).TileObl (D (F := F)) 𝒱 (P fi fw fb fx fo) v₀ 0 := by
  intro d c i O W hO _ _
  simp only [show (P fi fw fb fx fo).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body (d := d) (L := coordsV ⟨_, hc.1⟩ ⟨_, hc.2⟩) (tok ⟨_, hc.1⟩ ⟨_, hc.2⟩) (fi d) (fw d) (fb d) (fx d) (fo d) (hfi d) O W hO).trans
    (wp_mono frame _ _ fun _ => obl_post)

theorem vecSplit : (K (F := F)).VecSplit' (P fi fw fb fx fo) 0 := by
  intro d c
  show coreHas d (fi d) (fw d) (fb d) (fx d) (fo d) c ⊢ |={Set.univ}=> iprop(
      (bigSep Finset.univ fun i : Fin (grid0.bound 1) => tileHas d (fi d) (fw d) (fb d) (fx d) (fo d) c i)
      ∗ ((bigSep Finset.univ fun i : Fin (grid0.bound 1) => tileHas d (fi d) (fw d) (fb d) (fx d) (out fi fw fb fx d) c i)
          -∗ coreHas d (fi d) (fw d) (fb d) (fx d) (out fi fw fb fx d) c))
  unfold coreHas
  iintro H; imodintro
  isplitl [H]; · iexact H
  iintro H
  iexact H

end Call

end Cert.Proof

end
-- ==== Proof.Main.lean ====
/-
  @main on the TensorCore: the eleven host operations before the call, the call, and the reshape after it; and with that
  the run of the whole program, over any float values.
-/
module

public import proofs.«01_k».proof.Proof.Launch

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held tcRefs after seq)
open Idealize.ShloMosaic.Tactic

variable {F : FTy → Type} [FloatOps F]

local notation "𝕄" => MT nD τ sig (HIx 1) (Elt F) ℕ UU ℕ

/-- The contents of a whole array of this type. -/
abbrev Arr (F : FTy → Type) (s : Shape) (e : EltTy) : Type := (⟨s, e⟩ : BufTy).Contents (Elt F)

def joinF (a : Arr F S12800 .f32) (b : Arr F S2048 .f32) (c : Arr F S4096 .f32) (e : Arr F S1024 .f32) : Arr F S19968 .f32 :=
  concatenate S19968 0 [⟨S12800, a⟩, ⟨S2048, b⟩, ⟨S4096, c⟩, ⟨S1024, e⟩] concatenates_S12800_S2048_S4096_S1024_S19968_d0
def joinI (a : Arr F S12800 .i32) (b : Arr F S2048 .i32) (c : Arr F S4096 .i32) (e : Arr F S1024 .i32) : Arr F S19968 .i32 :=
  concatenate S19968 0 [⟨S12800, a⟩, ⟨S2048, b⟩, ⟨S4096, c⟩, ⟨S1024, e⟩] concatenates_S12800_S2048_S4096_S1024_S19968_d0
def joinX (a b c e : Arr F S1024x1 .f32) : Arr F S1024x4 .f32 :=
  concatenate S1024x4 1 [⟨S1024x1, a⟩, ⟨S1024x1, b⟩, ⟨S1024x1, c⟩, ⟨S1024x1, e⟩] concatenates_S1024x1_S1024x1_S1024x1_S1024x1_S1024x4_d1

/-- The host operations before the call. -/
def hostOps : List (HloOp τ sig (Elt F)) :=
  [ StableHlo.reshape main_arg4 main_v0 (rfl : (.f32 : EltTy) = .f32) shapeCasts_S12800x1_S12800,
    StableHlo.reshape main_arg6 main_v1 (rfl : (.f32 : EltTy) = .f32) shapeCasts_S2048x1_S2048,
    StableHlo.reshape main_arg8 main_v2 (rfl : (.f32 : EltTy) = .f32) shapeCasts_S4096x1_S4096,
    StableHlo.reshape main_arg10 main_v3 (rfl : (.f32 : EltTy) = .f32) shapeCasts_S1024x1_S1024,
    StableHlo.nary ![main_v0, main_v1, main_v2, main_v3] main_v4 (fun u => joinF (F := F) (u 0) (u 1) (u 2) (u 3)),
    StableHlo.nary ![main_arg5, main_arg7, main_arg9, main_arg11] main_v5 (fun u => joinF (F := F) (u 0) (u 1) (u 2) (u 3)),
    StableHlo.nary ![main_arg12, main_arg13, main_arg14, main_arg15] main_v6 (fun u => joinI (F := F) (u 0) (u 1) (u 2) (u 3)),
    StableHlo.nary ![main_arg0, main_arg1, main_arg2, main_arg3] main_v7 (fun u => joinX (F := F) (u 0) (u 1) (u 2) (u 3)),
    StableHlo.unary main_v7 main_v8 (broadcastInDim S1024x4x1 ![0, 1] bcast_S1024x4_S1024x4x1_0_1 : (⟨S1024x4, .f32⟩ : BufTy).Contents (Elt F) → (⟨S1024x4x1, .f32⟩ : BufTy).Contents (Elt F)),
    StableHlo.unary main_v8 main_v9 (broadcastInDim S1024x4x16 ![0, 1, 2] bcast_S1024x4x1_S1024x4x16_0_1_2 : (⟨S1024x4x1, .f32⟩ : BufTy).Contents (Elt F) → (⟨S1024x4x16, .f32⟩ : BufTy).Contents (Elt F)),
    StableHlo.reshape main_v9 main_v10 (rfl : (.f32 : EltTy) = .f32) shapeCasts_S1024x4x16_S65536 ]

/-- The host operation after it. -/
def lastOps : List (HloOp τ sig (Elt F)) :=
  [ StableHlo.reshape main_v11 main_v12 (rfl : (.f32 : EltTy) = .f32) shapeCasts_S51200000_S1024x50000 ]

theorem hostOps_sub : ∀ op ∈ (hostOps : List (HloOp τ sig (Elt F))), op.bufs ⊆ tcRefs τ sig := by
  intro op h
  simp only [hostOps, List.mem_cons, List.not_mem_nil, or_false] at h
  rcases h with rfl | rfl | rfl | rfl | rfl | rfl | rfl | rfl | rfl | rfl | rfl
  exacts [StableHlo.reshape_bufs_sub .., StableHlo.reshape_bufs_sub .., StableHlo.reshape_bufs_sub .., StableHlo.reshape_bufs_sub ..,
    StableHlo.nary_bufs_sub .., StableHlo.nary_bufs_sub .., StableHlo.nary_bufs_sub .., StableHlo.nary_bufs_sub ..,
    StableHlo.unary_bufs_sub .., StableHlo.unary_bufs_sub .., StableHlo.reshape_bufs_sub ..]

theorem lastOps_sub : ∀ op ∈ (lastOps : List (HloOp τ sig (Elt F))), op.bufs ⊆ tcRefs τ sig := by
  intro op h
  simp only [lastOps, List.mem_cons, List.not_mem_nil, or_false] at h
  subst h
  exact StableHlo.reshape_bufs_sub ..

theorem hostOps_fresh : ∀ op ∈ (hostOps : List (HloOp τ sig (Elt F))), op.fresh = ∅ := by
  intro op h
  simp only [hostOps, List.mem_cons, List.not_mem_nil, or_false] at h
  rcases h with rfl | rfl | rfl | rfl | rfl | rfl | rfl | rfl | rfl | rfl | rfl <;> rfl

theorem lastOps_fresh : ∀ op ∈ (lastOps : List (HloOp τ sig (Elt F))), op.fresh = ∅ := by
  intro op h
  simp only [lastOps, List.mem_cons, List.not_mem_nil, or_false] at h
  subst h
  rfl

/-- @main is the first operations, the call, and the last. -/
theorem main_eq (d : Dev nD) : main (F := F) d = (seq hostOps >>= fun _ => (sc (F := F)).run d 0 >>= fun _ => seq lastOps >>= fun _ => pure ⟨⟩) := rfl

variable (m : (ℓ : Loc nD τ sig) → Buf (Elt F) ℓ) (ρ : Dev nD → PrngReg)

/-- What device `d`'s buffers hold at launch, and after the first host operations. -/
abbrev V₀ (d : Dev nD) : Valuation τ sig (Elt F) := fun b => m (d, b)
abbrev V₁ (d : Dev nD) : Valuation τ sig (Elt F) := after hostOps (V₀ m d)

/-- What is launched at the argument `b`. -/
abbrev arg (b : Ref sig .tc) (d : Dev nD) : Buf (Elt F) ((T d : Thread nD τ).loc b) := m ((T d : Thread nD τ).loc b)

/-- The entries and the splats, as the call gets them. -/
def hostId (d : Dev nD) : Vec F S19968 .i32 := joinI (arg m main_arg12 d) (arg m main_arg13 d) (arg m main_arg14 d) (arg m main_arg15 d)
def hostB (d : Dev nD) : Vec F S19968 .f32 := joinF (arg m main_arg5 d) (arg m main_arg7 d) (arg m main_arg9 d) (arg m main_arg11 d)
def hostW (d : Dev nD) : Vec F S19968 .f32 :=
  joinF (shapeCast S12800 (arg m main_arg4 d) shapeCasts_S12800x1_S12800) (shapeCast S2048 (arg m main_arg6 d) shapeCasts_S2048x1_S2048)
    (shapeCast S4096 (arg m main_arg8 d) shapeCasts_S4096x1_S4096) (shapeCast S1024 (arg m main_arg10 d) shapeCasts_S1024x1_S1024)
def hostX (d : Dev nD) : Vec F S65536 .f32 :=
  shapeCast S65536 (broadcastInDim S1024x4x16 ![0, 1, 2] bcast_S1024x4x1_S1024x4x16_0_1_2
    (broadcastInDim S1024x4x1 ![0, 1] bcast_S1024x4_S1024x4x1_0_1 (joinX (arg m main_arg0 d) (arg m main_arg1 d) (arg m main_arg2 d) (arg m main_arg3 d))))
    shapeCasts_S1024x4x16_S65536

theorem V₁_v6 (d : Dev nD) : V₁ m d (Proc.devRef .tc main_v6) = hostId m d := by
  unfold V₁ hostOps hostId
  after_results
  rfl
theorem V₁_v5 (d : Dev nD) : V₁ m d (Proc.devRef .tc main_v5) = hostB m d := by
  unfold V₁ hostOps hostB
  after_results
  rfl
theorem V₁_v4 (d : Dev nD) : V₁ m d (Proc.devRef .tc main_v4) = hostW m d := by
  unfold V₁ hostOps hostW
  after_results
  rfl
theorem V₁_v10 (d : Dev nD) : V₁ m d (Proc.devRef .tc main_v10) = hostX m d := by
  unfold V₁ hostOps hostX
  after_results
  rfl

/-- The call's output, and what device `d`'s buffers hold after it, and at the end. -/
abbrev callOut (d : Dev nD) : Vec F S51200000 .f32 := out (hostId m) (hostW m) (hostB m) (hostX m) d
def V₂ (d : Dev nD) : Valuation τ sig (Elt F) := Function.update (V₁ m d) (Proc.devRef .tc main_v11) (callOut m d)
abbrev V₃ (d : Dev nD) : Valuation τ sig (Elt F) := after lastOps (V₂ m d)

/-- The call's five arrays. -/
def five : Finset (DevRef τ sig) :=
  {Proc.devRef .tc main_v6, Proc.devRef .tc main_v4, Proc.devRef .tc main_v5, Proc.devRef .tc main_v10, Proc.devRef .tc main_v11}

omit [FloatOps F] in
theorem five_sub : five ⊆ tcRefs τ sig := by decide

omit [FloatOps F] in
theorem held_five (d : Dev nD) (W : Valuation τ sig (Elt F)) :
    (held (T d : Thread nD τ) five W : sProp 𝕄)
      = iprop((iLoc d ↦{fullShare} W (Proc.devRef .tc main_v6)) ∗ (wLoc d ↦{fullShare} W (Proc.devRef .tc main_v4)) ∗ (bLoc d ↦{fullShare} W (Proc.devRef .tc main_v5))
        ∗ (xLoc d ↦{fullShare} W (Proc.devRef .tc main_v10)) ∗ (oLoc d ↦{fullShare} W (Proc.devRef .tc main_v11))) := by
  unfold held five
  rw [SparseCore.bigSep_insert' (by decide), SparseCore.bigSep_insert' (by decide), SparseCore.bigSep_insert' (by decide), SparseCore.bigSep_insert' (by decide), bigSep_singleton]

omit [FloatOps F] in
theorem unscoped_held (d : Dev nD) (W : Valuation τ sig (Elt F)) :
    (unscopedBufs d (fun b => W (Proc.devRef .tc b)) : sProp 𝕄) = held (T d : Thread nD τ) (tcRefs τ sig) W := by
  unfold unscopedBufs held tcRefs
  rw [show (Finset.univ.filter fun b : Ref sig .tc => ¬ b.isScoped) = Finset.univ by decide, BI.bigSep_map]
  rfl

/-- The launch theorem's hypotheses, at this program. -/
abbrev PM : (K (F := F)).Pay (nD := nD) (Val := Elt F) (Name := ℕ) (U := UU) :=
  P (hostId m) (hostW m) (hostB m) (hostX m) (fun d => V₁ m d (Proc.devRef .tc main_v11))

theorem st0_eq (d : Dev nD) : (bigSep Finset.univ fun c : Fin ((K (F := F)).nCore 0) => (PM m).st 0 d c)
    = bigSep Finset.univ (coreHas d (hostId m d) (hostW m d) (hostB m d) (hostX m d) (V₁ m d (Proc.devRef .tc main_v11))) := rfl
theorem dn0_eq (d : Dev nD) : (bigSep Finset.univ fun c : Fin ((K (F := F)).nCore 0) => (PM m).dn 0 d c)
    = bigSep Finset.univ (coreHas d (hostId m d) (hostW m d) (hostB m d) (hostX m d) (callOut m d)) := rfl

/-- What the TensorCore holds at the end. -/
abbrev FIN (d : Dev nD) : sProp 𝕄 := held (T d : Thread nD τ) (tcRefs τ sig) (V₃ m d)

theorem V₂_v11 (d : Dev nD) : V₂ m d (Proc.devRef .tc main_v11) = callOut m d := Function.update_self ..
theorem V₂_ne (d : Dev nD) (b : DevRef τ sig) (h : b ≠ Proc.devRef .tc main_v11) : V₂ m d b = V₁ m d b := Function.update_of_ne h ..

theorem before_call (d : Dev nD) :
    (held (T d : Thread nD τ) (tcRefs τ sig) (V₁ m d) : sProp 𝕄)
      ⊢ iprop((tcKeeps d (hostId m d) (hostW m d) (hostB m d) (hostX m d)
          ∗ bigSep Finset.univ (coreHas d (hostId m d) (hostW m d) (hostB m d) (hostX m d) (V₁ m d (Proc.devRef .tc main_v11))))
        ∗ held (T d : Thread nD τ) (tcRefs τ sig \ five) (V₂ m d)) := by
  rw [StableHlo.held_sub_split (T d : Thread nD τ) five_sub, held_five, V₁_v6, V₁_v4, V₁_v5, V₁_v10,
    StableHlo.held_congr (T d : Thread nD τ) (V := V₁ m d) (V' := V₂ m d) fun b hb => (V₂_ne m d b (by rintro rfl; exact absurd hb (by decide))).symm]
  iintro ⟨⟨Hi, Hw, Hb, Hx, Ho⟩, H⟩
  isplitr [H]
  · iapply (dealt d (hostId m d) (hostW m d) (hostB m d) (hostX m d) _).1
    isplitr [Ho]
    · isplitl [Hi]; · iexact Hi
      isplitl [Hw]; · iexact Hw
      isplitl [Hb] <;> iassumption
    · iexact Ho
  · iexact H

theorem after_call (d : Dev nD) :
    iprop((tcKeeps d (hostId m d) (hostW m d) (hostB m d) (hostX m d)
          ∗ bigSep Finset.univ (coreHas d (hostId m d) (hostW m d) (hostB m d) (hostX m d) (callOut m d)))
        ∗ held (T d : Thread nD τ) (tcRefs τ sig \ five) (V₂ m d))
      ⊢ (held (T d : Thread nD τ) (tcRefs τ sig) (V₂ m d) : sProp 𝕄) := by
  rw [StableHlo.held_sub_split (T d : Thread nD τ) five_sub (V₂ m d), held_five, V₂_v11,
    V₂_ne m d (Proc.devRef .tc main_v6) (by decide), V₂_ne m d (Proc.devRef .tc main_v4) (by decide), V₂_ne m d (Proc.devRef .tc main_v5) (by decide),
    V₂_ne m d (Proc.devRef .tc main_v10) (by decide), V₁_v6, V₁_v4, V₁_v5, V₁_v10]
  iintro ⟨H5, H⟩
  isplitr [H]
  · ihave H5' := (dealt d (hostId m d) (hostW m d) (hostB m d) (hostX m d) _).2 $$ H5
    icases H5' with ⟨⟨Hi, Hw, Hb, Hx⟩, Ho⟩
    isplitl [Hi]; · iexact Hi
    isplitl [Hw]; · iexact Hw
    isplitl [Hb]; · iexact Hb
    isplitl [Hx] <;> iassumption
  · iexact H

/-- @main on device `d`'s TensorCore. -/
theorem hmain (κ : GSem nD τ sig → ℕ) (d : Dev nD) :
    iprop((K (F := F)).ctx EH (PM m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d : Thread nD τ) (tcRefs τ sig) (V₀ m d) from unscoped_held d (V₀ m d), main_eq]
  iintro ⟨#Hctx, Hst, ⟨Hb, Hh, Hts, -⟩, -⟩
  iapply (StableHlo.wp_seq 𝒱 none Set.univ d (tcRefs τ sig) _ hostOps hostOps_sub hostOps_fresh (V₀ m d)) $$ [Hb Hh]
  · isplitl [Hb] <;> iassumption
  iintro ⟨Hb, Hh⟩
  ihave Hc := (before_call m d) $$ Hh
  icases Hc with ⟨⟨Hk, Hc⟩, Hh⟩
  rw [wp_bind]
  iapply ((K (F := F)).wp_run (D (F := F)) 𝒱 (EH := EH) (P := PM m) κ d 0) $$ [Hst Hk Hc Hh Hb Hts]
  isplitr; · iexact Hctx
  isplitl [Hst]; · iexact Hst
  isplitl [Hc]
  · rw [st0_eq]; iexact Hc
  iintro ⟨Hst, Hdn⟩
  ihave Hdn' := (Entails.of_eq (dn0_eq m d)) $$ Hdn
  ihave Hh' := (after_call m d) $$ [Hk Hdn' Hh]
  · isplitr [Hh]
    · isplitl [Hk] <;> iassumption
    · iexact Hh
  iapply (StableHlo.wp_seq 𝒱 none Set.univ d (tcRefs τ sig) _ lastOps lastOps_sub lastOps_fresh (V₂ m d)) $$ [Hb Hh']
  · isplitl [Hb] <;> iassumption
  iintro ⟨Hb, Hh⟩
  rw [wp_pure]
  imodintro
  isplitl [Hst]; · iexact Hst
  isplitl [Hh]; · iexact Hh
  isplitl [Hb] <;> iassumption

/-- The final state's buffers. -/
def fq (d : Dev nD) (s' : Phys nD τ sig (Elt F)) : Prop := ∀ b ∈ tcRefs τ sig, s'.mem.mem (d, b) = V₃ m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (tcRefs τ sig)) $$ [HSI H]
  · isplitl [HSI]; · iexact HSI
    iexact H
  ipureintro
  exact h

def u₀ : UU := (initOf (K (F := F)).hsCells (K (F := F)).hsToks, 1)

omit [FloatOps F] in
theorem no_x {I J : Type} (s : Finset I) (t : Finset J) : (bigSep s fun _ => bigSep t fun _ => (iprop(emp) : sProp 𝕄)) = iprop(emp) := by
  have h : ∀ i ∈ s, (bigSep t fun _ => (iprop(emp) : sProp 𝕄)) = iprop(emp) := fun _ _ => bigSep_emp_const _
  exact (bigSep_congr h).trans (bigSep_emp_const _)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (PM m).x q thr) := by
  unfold u₀
  iintro Hu
  ihave H := (ownU_pair _ _) $$ Hu
  icases H with ⟨HH, -⟩
  imodintro
  isplitl [HH]; · iexact HH
  isplitr
  · rw [show (bigSep Finset.univ fun _ : Dev nD => (iprop(emp) : sProp 𝕄)) = iprop(emp) from bigSep_emp_const _]; iempintro
  rw [show (bigSep Finset.univ fun thr : Thread nD τ => bigSep Finset.univ fun q : Fin 1 => (PM m).x q thr) = (iprop(emp) : sProp 𝕄) from no_x _ _]
  iempintro

/-- Every buffer of every device's TensorCore ends as `V₃` has it, every counter at zero. -/
def QC : PUnit × MemSt nD τ sig (Elt F) → Prop := fun r => (∀ d : Dev nD, ∀ b ∈ tcRefs τ sig, r.2.mem (d, b) = V₃ m d b) ∧ r.2.sem = fun _ => 0

/-- The whole run, over any float values, wherever the entries' ids are in range. -/
theorem run_all [∀ e, Nonempty (Elt F e)] (hfi : ∀ d t, InRange (win (F := F) (e := .i32) (16 * t) (hostId m d))) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl _ _ _ _ _ hfi)
    (fun q _ => match q with | 0 => SparseCore.Cfg.VecSplit.of_plain (vecSplit _ _ _ _ _))
    m ρ main (fun _ => iprop(emp)) (FIN m) (u₀ (F := F)) (sep_elim_left.trans (hu₀ m)) (hmain m ρ) (fq m) (hfin m) (QC m) (fun _ h hz => ⟨h, hz⟩)

end Cert.Proof

end
-- ==== Proof.Pieces.lean ====
/-
  Four arrays laid end to end, read at a place; and what the precondition says of the four arrays of ids.
-/
module

public import proofs.«01_k».proof.Proof.Main
public import proofs.«01_k».proof.Proof.Gen.Pre_in_range
public import Idealize.ShloMosaic.Lib.ReduceAll
public import Idealize.ShloMosaic.Lib.Pipeline.Value
public import Idealize.ShloMosaic.Lib.ValueIdxCore

@[expose] public section

noncomputable section

namespace Cert.Proof

open Cert.KernelIdeal Cert.KernelIdeal.Gen
open Idealize.ShloMosaic Idealize.ShloMosaic.ValueIdx Idealize.SL.Sem

theorem ofLane_ix1 {n : ℕ} (k : Fin n) : Shape.ofLane (d := ![n]) k = ix1 k := by
  funext q
  match q with
  | ⟨0, _⟩ => rfl

/-- A vector read at a number, wrapped to its length. -/
def rd {α : Type} {n : ℕ} (hn : 0 < n) (x : (⟨1, ![n]⟩ : Shape).Idx → α) (k : ℕ) : α := x (ix1 ⟨k % n, Nat.mod_lt k hn⟩)

theorem rd_of_lt {α : Type} {n : ℕ} (hn : 0 < n) (x : (⟨1, ![n]⟩ : Shape).Idx → α) {k : ℕ} (hk : k < n) : rd hn x k = x (ix1 ⟨k, hk⟩) :=
  congrArg (fun q => x (ix1 q)) (Fin.ext (Nat.mod_eq_of_lt hk))

/-- A matrix's row read at a number, wrapped to its length. -/
def rd2 {α : Type} {R n : ℕ} (hn : 0 < n) (x : (⟨2, ![R, n]⟩ : Shape).Idx → α) (r : Fin R) (k : ℕ) : α := x (ix2 r ⟨k % n, Nat.mod_lt k hn⟩)

theorem rd2_of_lt {α : Type} {R n : ℕ} (hn : 0 < n) (x : (⟨2, ![R, n]⟩ : Shape).Idx → α) (r : Fin R) {k : ℕ} (hk : k < n) :
    rd2 hn x r k = x (ix2 r ⟨k, hk⟩) :=
  congrArg (fun q => x (ix2 r q)) (Fin.ext (Nat.mod_eq_of_lt hk))

/-- Place `k` of four sequences laid end to end, the first three of `n0`, `n1` and `n2` elements. -/
def four {α : Type} (n0 n1 n2 : ℕ) (a b c e : ℕ → α) (k : ℕ) : α :=
  if k < n0 then a k else if k < n0 + n1 then b (k - n0) else if k < n0 + n1 + n2 then c (k - (n0 + n1)) else e (k - (n0 + n1 + n2))

section Cat
variable {α : Type} {n0 n1 n2 n3 N R : ℕ} (h0 : 0 < n0) (h1 : 0 < n1) (h2 : 0 < n2) (h3 : 0 < n3) (hN : N = n0 + n1 + n2 + n3)
include hN

/-- Four vectors laid end to end, read at a place. -/
theorem cat1 (a : (⟨1, ![n0]⟩ : Shape).Idx → α) (b : (⟨1, ![n1]⟩ : Shape).Idx → α) (c : (⟨1, ![n2]⟩ : Shape).Idx → α) (e : (⟨1, ![n3]⟩ : Shape).Idx → α)
    (h : Shape.Concatenates [⟨1, ![n0]⟩, ⟨1, ![n1]⟩, ⟨1, ![n2]⟩, ⟨1, ![n3]⟩] ⟨1, ![N]⟩ 0) (k : ℕ) (hk : k < N) :
    concatenate ⟨1, ![N]⟩ 0 [⟨⟨1, ![n0]⟩, a⟩, ⟨⟨1, ![n1]⟩, b⟩, ⟨⟨1, ![n2]⟩, c⟩, ⟨⟨1, ![n3]⟩, e⟩] h (ix1 ⟨k, hk⟩)
      = four n0 n1 n2 (rd h0 a) (rd h1 b) (rd h2 c) (rd h3 e) k := by
  unfold four
  split
  · next g =>
    rw [rd_of_lt _ _ g]
    exact concatenate_apply_piece (t := ⟨1, ![N]⟩) 0 [⟨⟨1, ![n0]⟩, a⟩, ⟨⟨1, ![n1]⟩, b⟩, ⟨⟨1, ![n2]⟩, c⟩, ⟨⟨1, ![n3]⟩, e⟩] h _ 0 (by simp) ⟨1, ![n0]⟩ a rfl rfl 0 (by simp) (ix1 ⟨k, g⟩) (fun q hq => absurd (Subsingleton.elim _ _) hq) (Nat.zero_add k)
  · split
    · next g g' =>
      rw [rd_of_lt _ _ (show k - n0 < n1 by omega)]
      exact concatenate_apply_piece (t := ⟨1, ![N]⟩) 0 [⟨⟨1, ![n0]⟩, a⟩, ⟨⟨1, ![n1]⟩, b⟩, ⟨⟨1, ![n2]⟩, c⟩, ⟨⟨1, ![n3]⟩, e⟩] h _ 1 (by simp) ⟨1, ![n1]⟩ b rfl rfl n0 (by simp) (ix1 ⟨k - n0, by omega⟩) (fun q hq => absurd (Subsingleton.elim _ _) hq)
        (show n0 + (k - n0) = k by omega)
    · split
      · next g g' g'' =>
        rw [rd_of_lt _ _ (show k - (n0 + n1) < n2 by omega)]
        exact concatenate_apply_piece (t := ⟨1, ![N]⟩) 0 [⟨⟨1, ![n0]⟩, a⟩, ⟨⟨1, ![n1]⟩, b⟩, ⟨⟨1, ![n2]⟩, c⟩, ⟨⟨1, ![n3]⟩, e⟩] h _ 2 (by simp) ⟨1, ![n2]⟩ c rfl rfl (n0 + n1) (by simp) (ix1 ⟨k - (n0 + n1), by omega⟩)
          (fun q hq => absurd (Subsingleton.elim _ _) hq) (show n0 + n1 + (k - (n0 + n1)) = k by omega)
      · next g g' g'' =>
        rw [rd_of_lt _ _ (show k - (n0 + n1 + n2) < n3 by omega)]
        exact concatenate_apply_piece (t := ⟨1, ![N]⟩) 0 [⟨⟨1, ![n0]⟩, a⟩, ⟨⟨1, ![n1]⟩, b⟩, ⟨⟨1, ![n2]⟩, c⟩, ⟨⟨1, ![n3]⟩, e⟩] h _ 3 (by simp) ⟨1, ![n3]⟩ e rfl rfl (n0 + n1 + n2) (by simp [Nat.add_assoc]) (ix1 ⟨k - (n0 + n1 + n2), by omega⟩)
          (fun q hq => absurd (Subsingleton.elim _ _) hq) (show n0 + n1 + n2 + (k - (n0 + n1 + n2)) = k by omega)

omit hN in
theorem off_axis {n : ℕ} (r : Fin R) (k : Fin N) (k' : Fin n) (q : Fin 2) (hq : q.cast (rfl : 2 = 2) ≠ 1) :
    (ix2 r k' q).val = (ix2 r k (q.cast (rfl : 2 = 2))).val :=
  match q, hq with
  | ⟨0, _⟩, _ => rfl
  | ⟨1, _⟩, hq => absurd rfl hq

/-- Four matrices laid side by side, read at a row and a place. -/
theorem cat2 (a : (⟨2, ![R, n0]⟩ : Shape).Idx → α) (b : (⟨2, ![R, n1]⟩ : Shape).Idx → α) (c : (⟨2, ![R, n2]⟩ : Shape).Idx → α) (e : (⟨2, ![R, n3]⟩ : Shape).Idx → α)
    (h : Shape.Concatenates [⟨2, ![R, n0]⟩, ⟨2, ![R, n1]⟩, ⟨2, ![R, n2]⟩, ⟨2, ![R, n3]⟩] ⟨2, ![R, N]⟩ 1) (r : Fin R) (k : ℕ) (hk : k < N) :
    concatenate ⟨2, ![R, N]⟩ 1 [⟨⟨2, ![R, n0]⟩, a⟩, ⟨⟨2, ![R, n1]⟩, b⟩, ⟨⟨2, ![R, n2]⟩, c⟩, ⟨⟨2, ![R, n3]⟩, e⟩] h (ix2 r ⟨k, hk⟩)
      = four n0 n1 n2 (rd2 h0 a r) (rd2 h1 b r) (rd2 h2 c r) (rd2 h3 e r) k := by
  unfold four
  split
  · next g =>
    rw [rd2_of_lt _ _ _ g]
    exact concatenate_apply_piece (t := ⟨2, ![R, N]⟩) 1 [⟨⟨2, ![R, n0]⟩, a⟩, ⟨⟨2, ![R, n1]⟩, b⟩, ⟨⟨2, ![R, n2]⟩, c⟩, ⟨⟨2, ![R, n3]⟩, e⟩] h _ 0 (by simp) ⟨2, ![R, n0]⟩ a rfl rfl 0 (by simp) (ix2 r ⟨k, g⟩) (off_axis r _ _) (Nat.zero_add k)
  · split
    · next g g' =>
      rw [rd2_of_lt _ _ _ (show k - n0 < n1 by omega)]
      exact concatenate_apply_piece (t := ⟨2, ![R, N]⟩) 1 [⟨⟨2, ![R, n0]⟩, a⟩, ⟨⟨2, ![R, n1]⟩, b⟩, ⟨⟨2, ![R, n2]⟩, c⟩, ⟨⟨2, ![R, n3]⟩, e⟩] h _ 1 (by simp) ⟨2, ![R, n1]⟩ b rfl rfl n0 (by simp) (ix2 r ⟨k - n0, by omega⟩) (off_axis r _ _)
        (show n0 + (k - n0) = k by omega)
    · split
      · next g g' g'' =>
        rw [rd2_of_lt _ _ _ (show k - (n0 + n1) < n2 by omega)]
        exact concatenate_apply_piece (t := ⟨2, ![R, N]⟩) 1 [⟨⟨2, ![R, n0]⟩, a⟩, ⟨⟨2, ![R, n1]⟩, b⟩, ⟨⟨2, ![R, n2]⟩, c⟩, ⟨⟨2, ![R, n3]⟩, e⟩] h _ 2 (by simp) ⟨2, ![R, n2]⟩ c rfl rfl (n0 + n1) (by simp) (ix2 r ⟨k - (n0 + n1), by omega⟩)
          (off_axis r _ _) (show n0 + n1 + (k - (n0 + n1)) = k by omega)
      · next g g' g'' =>
        rw [rd2_of_lt _ _ _ (show k - (n0 + n1 + n2) < n3 by omega)]
        exact concatenate_apply_piece (t := ⟨2, ![R, N]⟩) 1 [⟨⟨2, ![R, n0]⟩, a⟩, ⟨⟨2, ![R, n1]⟩, b⟩, ⟨⟨2, ![R, n2]⟩, c⟩, ⟨⟨2, ![R, n3]⟩, e⟩] h _ 3 (by simp) ⟨2, ![R, n3]⟩ e rfl rfl (n0 + n1 + n2) (by simp [Nat.add_assoc]) (ix2 r ⟨k - (n0 + n1 + n2), by omega⟩)
          (off_axis r _ _) (show n0 + n1 + n2 + (k - (n0 + n1 + n2)) = k by omega)

end Cat

/-- What holds of every element of the four holds of every place. -/
theorem four_all {α : Type} {n0 n1 n2 : ℕ} (p : α → Prop) {a b c e : ℕ → α} (ha : ∀ k, p (a k)) (hb : ∀ k, p (b k)) (hc : ∀ k, p (c k)) (he : ∀ k, p (e k)) (k : ℕ) :
    p (four n0 n1 n2 a b c e k) := by
  unfold four
  split
  · exact ha _
  · split
    · exact hb _
    · split
      · exact hc _
      · exact he _

/-! ## The precondition -/

theorem id_lt (v : BitVec 32) (e : IntOp.andi (IntOp.cmpi .sge v 0#32) (IntOp.cmpi .slt v 50000#32) = 1#1) : v.toNat < 50000 := by
  obtain ⟨e1, e2⟩ := IntOp.andi_eq_one.1 e
  have one (p : Bool) : (BitVec.ofBool p = 1#1) ↔ p = true := by cases p <;> decide
  simp only [IntOp.cmpi, one, BitVec.sle_eq_decide, BitVec.slt_eq_decide, decide_eq_true_eq, BitVec.toInt_eq_toNat_cond, BitVec.toNat_ofNat, Nat.reducePow, Nat.reduceMod] at e1 e2
  omega

instance : Subsingleton Pre_in_range.S_.Idx := ⟨fun a b => funext fun q => q.elim0⟩

variable {F : FTy → Type} [FloatOps F]

/-- The precondition, all ones, puts every id of the four arrays below 50000. -/
theorem ids_of_pre (x0 x1 x2 x3 : FVec F S1024x1 .f32) (w0 : FVec F S12800x1 .f32) (b0 : FVec F S12800 .f32) (w1 : FVec F S2048x1 .f32) (b1 : FVec F S2048 .f32)
    (w2 : FVec F S4096x1 .f32) (b2 : FVec F S4096 .f32) (w3 : FVec F S1024x1 .f32) (b3 : FVec F S1024 .f32)
    (i0 : IVec S12800 32) (i1 : IVec S2048 32) (i2 : IVec S4096 32) (i3 : IVec S1024 32)
    (h : @Cert.Pre_in_range.fn Cert.Pre_in_range.Gen.facts F _ x0 x1 x2 x3 w0 b0 w1 b1 w2 b2 w3 b3 i0 i1 i2 i3 = fun _ => 1#1) :
    (∀ i, (i0 i).toNat < 50000) ∧ (∀ i, (i1 i).toNat < 50000) ∧ (∀ i, (i2 i).toNat < 50000) ∧ ∀ i, (i3 i).toNat < 50000 := by
  have e := congrFun h ix0
  unfold Cert.Pre_in_range.fn Cert.Pre_in_range.fn_part1 at e
  obtain ⟨e, e3⟩ := IntOp.andi_eq_one.1 e
  obtain ⟨e, e2⟩ := IntOp.andi_eq_one.1 e
  obtain ⟨e0, e1⟩ := IntOp.andi_eq_one.1 e
  exact ⟨fun i => id_lt _ (Host.reduce_andi_all _ _ _ _ _ e0 i), fun i => id_lt _ (Host.reduce_andi_all _ _ _ _ _ e1 i),
    fun i => id_lt _ (Host.reduce_andi_all _ _ _ _ _ e2 i), fun i => id_lt _ (Host.reduce_andi_all _ _ _ _ _ e3 i)⟩

/-- So the entries' ids are in range, group by group. -/
theorem inRange_join (i0 : IVec S12800 32) (i1 : IVec S2048 32) (i2 : IVec S4096 32) (i3 : IVec S1024 32)
    (h : (∀ i, (i0 i).toNat < 50000) ∧ (∀ i, (i1 i).toNat < 50000) ∧ (∀ i, (i2 i).toNat < 50000) ∧ ∀ i, (i3 i).toNat < 50000) (o : ℕ) :
    InRange (win (F := F) (e := .i32) o (joinI (F := F) i0 i1 i2 i3)) := by
  intro l
  unfold win joinI
  have e := cat1 (α := BitVec 32) (n0 := 12800) (n1 := 2048) (n2 := 4096) (n3 := 1024) (N := 19968) (by decide) (by decide) (by decide) (by decide) rfl i0 i1 i2 i3
    concatenates_S12800_S2048_S4096_S1024_S19968_d0 ((o + (l 0).val) % 19968) (Nat.mod_lt _ (by decide))
  refine lt_of_eq_of_lt (congrArg BitVec.toNat ((congrArg (concatenate S19968 0 [⟨S12800, i0⟩, ⟨S2048, i1⟩, ⟨S4096, i2⟩, ⟨S1024, i3⟩] concatenates_S12800_S2048_S4096_S1024_S19968_d0) (ofLane_ix1 (n := 19968) _)).trans e)) ?_
  exact four_all (fun v : BitVec 32 => v.toNat < 50000) (fun _ => h.1 _) (fun _ => h.2.1 _) (fun _ => h.2.2.1 _) (fun _ => h.2.2.2 _) _

end Cert.Proof

end
-- ==== Proof.Frames.lean ====
/-
  The frames: the kernel's, over bit patterns and over extended reals, from its one run; and the reference's.
-/
module

public import proofs.«01_k».proof.Proof.Pieces
public import proofs.«01_k».proof.Defs
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

noncomputable section

namespace Cert.Proof

open Cert.KernelIdeal Cert.KernelIdeal.Gen
open Idealize.ShloMosaic
open Idealize.ShloMosaic.SparseCore (S V T)
open Idealize.SL.Sem
open Idealize.ShloMosaic.StableHlo (tcRefs after devRef_mem_tcRefs)
open Idealize.ShloMosaic.Tactic

attribute [local instance] Cert.Pre_in_range.Gen.facts Cert.Kernel.Gen.facts Cert.ReferenceIdeal.Gen.facts

variable {F : FTy → Type} [FloatOps F]
variable (m : (ℓ : Loc nD τ sig) → Buf (Elt F) ℓ)

theorem V₃_of_ne (d : Dev nD) (b : Ref sig .tc) (h12 : Proc.devRef (τ := τ) .tc b ≠ Proc.devRef .tc main_v12) (h11 : Proc.devRef (τ := τ) .tc b ≠ Proc.devRef .tc main_v11) :
    V₃ m d (Proc.devRef .tc b) = V₁ m d (Proc.devRef .tc b) := by
  rw [← V₂_ne m d _ h11]
  exact HloOp.result_of_not_mem _ (V₂ m d) (by rw [StableHlo.reshape_writes, Finset.mem_singleton]; exact h12)

/-- The arguments end as they were launched. -/
theorem args_kept (d : Dev nD) :
    (V₃ m d (Proc.devRef .tc main_arg0) = m ((T d : Thread nD τ).loc main_arg0) ∧ V₃ m d (Proc.devRef .tc main_arg1) = m ((T d : Thread nD τ).loc main_arg1)
    ∧ V₃ m d (Proc.devRef .tc main_arg2) = m ((T d : Thread nD τ).loc main_arg2) ∧ V₃ m d (Proc.devRef .tc main_arg3) = m ((T d : Thread nD τ).loc main_arg3)
    ∧ V₃ m d (Proc.devRef .tc main_arg4) = m ((T d : Thread nD τ).loc main_arg4) ∧ V₃ m d (Proc.devRef .tc main_arg5) = m ((T d : Thread nD τ).loc main_arg5)
    ∧ V₃ m d (Proc.devRef .tc main_arg6) = m ((T d : Thread nD τ).loc main_arg6) ∧ V₃ m d (Proc.devRef .tc main_arg7) = m ((T d : Thread nD τ).loc main_arg7)
    ∧ V₃ m d (Proc.devRef .tc main_arg8) = m ((T d : Thread nD τ).loc main_arg8) ∧ V₃ m d (Proc.devRef .tc main_arg9) = m ((T d : Thread nD τ).loc main_arg9)
    ∧ V₃ m d (Proc.devRef .tc main_arg10) = m ((T d : Thread nD τ).loc main_arg10) ∧ V₃ m d (Proc.devRef .tc main_arg11) = m ((T d : Thread nD τ).loc main_arg11)
    ∧ V₃ m d (Proc.devRef .tc main_arg12) = m ((T d : Thread nD τ).loc main_arg12) ∧ V₃ m d (Proc.devRef .tc main_arg13) = m ((T d : Thread nD τ).loc main_arg13)
    ∧ V₃ m d (Proc.devRef .tc main_arg14) = m ((T d : Thread nD τ).loc main_arg14) ∧ V₃ m d (Proc.devRef .tc main_arg15) = m ((T d : Thread nD τ).loc main_arg15)) := by
  refine ⟨?_, ?_, ?_, ?_, ?_, ?_, ?_, ?_, ?_, ?_, ?_, ?_, ?_, ?_, ?_, ?_⟩ <;>
    (rw [V₃_of_ne m d _ (by decide) (by decide)]; unfold V₁ hostOps; after_results)

/-- What the run says of every buffer of a TensorCore. -/
theorem read_end {r : PUnit × MemSt nD τ sig (Elt F)} (h : QC m r) (d : Dev nD) (b : Ref sig .tc) :
    r.2.mem ((T d : Thread nD τ).loc b) = V₃ m d (Proc.devRef .tc b) := h.1 d _ (devRef_mem_tcRefs b)

theorem args_end {r : PUnit × MemSt nD τ sig (Elt F)} (h : QC m r) (d : Dev nD) :
    (r.2.mem ((T d : Thread nD τ).loc main_arg0) = m ((T d : Thread nD τ).loc main_arg0) ∧ r.2.mem ((T d : Thread nD τ).loc main_arg1) = m ((T d : Thread nD τ).loc main_arg1)
    ∧ r.2.mem ((T d : Thread nD τ).loc main_arg2) = m ((T d : Thread nD τ).loc main_arg2) ∧ r.2.mem ((T d : Thread nD τ).loc main_arg3) = m ((T d : Thread nD τ).loc main_arg3)
    ∧ r.2.mem ((T d : Thread nD τ).loc main_arg4) = m ((T d : Thread nD τ).loc main_arg4) ∧ r.2.mem ((T d : Thread nD τ).loc main_arg5) = m ((T d : Thread nD τ).loc main_arg5)
    ∧ r.2.mem ((T d : Thread nD τ).loc main_arg6) = m ((T d : Thread nD τ).loc main_arg6) ∧ r.2.mem ((T d : Thread nD τ).loc main_arg7) = m ((T d : Thread nD τ).loc main_arg7)
    ∧ r.2.mem ((T d : Thread nD τ).loc main_arg8) = m ((T d : Thread nD τ).loc main_arg8) ∧ r.2.mem ((T d : Thread nD τ).loc main_arg9) = m ((T d : Thread nD τ).loc main_arg9)
    ∧ r.2.mem ((T d : Thread nD τ).loc main_arg10) = m ((T d : Thread nD τ).loc main_arg10) ∧ r.2.mem ((T d : Thread nD τ).loc main_arg11) = m ((T d : Thread nD τ).loc main_arg11)
    ∧ r.2.mem ((T d : Thread nD τ).loc main_arg12) = m ((T d : Thread nD τ).loc main_arg12) ∧ r.2.mem ((T d : Thread nD τ).loc main_arg13) = m ((T d : Thread nD τ).loc main_arg13)
    ∧ r.2.mem ((T d : Thread nD τ).loc main_arg14) = m ((T d : Thread nD τ).loc main_arg14) ∧ r.2.mem ((T d : Thread nD τ).loc main_arg15) = m ((T d : Thread nD τ).loc main_arg15)) := by
  simp only [read_end m h]
  exact args_kept m d

/-- The kernel over bit patterns: it runs, its arguments end unchanged, its counters at zero. -/
theorem frame_kernel : Cert.quiescent_Kernel := fun m ρ hpre =>
  (θ_run Cert.KernelIdeal.defs _ _).mono (fun _ h => ⟨fun c => args_end (F := Bits) m h c, h.2⟩)
    (run_all (F := Bits) m ρ fun d t => inRange_join _ _ _ _ (ids_of_pre _ _ _ _ _ _ _ _ _ _ _ _ _ _ _ _ (hpre d)) _)

/-- The kernel over extended reals. -/
theorem frame_ideal : Cert.quiescent_KernelIdeal := fun m ρ hpre =>
  (θ_run Cert.KernelIdeal.defs _ _).mono (fun _ h => ⟨fun c => args_end (F := Ideal) m h c, h.2⟩)
    (run_all (F := Ideal) m ρ fun d t => inRange_join _ _ _ _ (ids_of_pre _ _ _ _ _ _ _ _ _ _ _ _ _ _ _ _ (hpre d)) _)

/-- The reference: it declares no semaphore, so its counters are at zero whenever it ends. -/
theorem frame_reference : Cert.quiescent_ReferenceIdeal := fun m ρ _ =>
  (θ_run Cert.ReferenceIdeal.defs _ _).mono (fun r h => ⟨fun c => (h c).2, sem_eq_zero_of_no_sems rfl r.2⟩) (Cert.ReferenceIdeal.Value.run (F := Ideal) m ρ)

theorem frame_reference_pre : Cert.quiescent_ReferenceIdeal_pre_in_range := fun m ρ _ =>
  (θ_run Cert.ReferenceIdeal.defs _ _).mono (fun r h => ⟨fun c => (h c).2, sem_eq_zero_of_no_sems rfl r.2⟩) (Cert.ReferenceIdeal.Value.run (F := Ideal) m ρ)

end Cert.Proof

end
-- ==== Proof.Sums.lean ====
/-
  What the kernel's halves hold, over extended reals: at each column the sum of the values whose id is that column. The
  extended reals' addition is commutative and associative, so the order the lanes add in does not matter.
-/
module

public import proofs.«01_k».proof.Proof.Pieces
public import Idealize.ShloMosaic.PureOps.Ideal.Laws

@[expose] public section

noncomputable section

namespace Cert.Proof

open Cert.KernelIdeal Cert.KernelIdeal.Gen
open Idealize.ShloMosaic Idealize.SL.Sem
open Idealize.ShloMosaic.ValueIdx
open Finset (range)

/-- A left fold whose every step adds something at each place ends at the sum of what was added there. -/
theorem foldl_adds {ι J : Type} (step : (J → EReal) → ι → J → EReal) (c : ι → J → EReal) (hs : ∀ g k j, step g k j = g j + c k j) (j : J) :
    ∀ (L : List ι) (f : J → EReal), L.foldl step f j = f j + (L.map fun k => c k j).sum
  | [], f => by simp
  | k :: L, f => by rw [List.foldl_cons, foldl_adds step c hs j L, hs, List.map_cons, List.sum_cons, add_assoc]

/-- One scatter of sixteen lanes: each place gains the values of the lanes that name it. -/
theorem storeIdx_at (f : Vec Ideal S25088 .f32) (x : IdV) (v : Vec Ideal S16 .f32) (mask : IVec S16 1)
    (h : ∀ a l, ((![x] : Fin 1 → IVec S16 32) a l).toNat < S25088.size a) (p : S25088.Idx) :
    storeIdx f ![x] v mask true h p
      = (f p + ∑ l : Fin 16, if mask (ix1 l) = 1 ∧ (x (ix1 l)).toNat = (p 0).val then (v (ix1 l) : EReal) else 0 : EReal) := by
  rw [Fin.sum_univ_def]
  unfold storeIdx
  refine foldl_adds _ (fun (k : Fin 16) (j : S25088.Idx) => if mask (ix1 k) = 1 ∧ (x (ix1 k)).toNat = (j 0).val then (v (ix1 k) : EReal) else 0) (fun g k j => ?_) p (List.finRange 16) f
  have ek : Shape.ofLane (d := ![16]) k = ix1 k := ofLane_ix1 (n := 16) k
  by_cases hm : mask (ix1 k) = 1
  · by_cases hj : (x (ix1 k)).toNat = (j 0).val
    · have e : idxAt ![x] h (Shape.ofLane (d := ![16]) k) = j := by
        rw [ek]
        funext a
        match a with
        | ⟨0, _⟩ => exact Fin.ext hj
      rw [if_pos (show _ ∧ _ from ⟨hm, hj⟩)]
      refine (congrFun (if_pos (by rw [ek]; exact hm)) j).trans ?_
      refine (if_pos fun a => by rw [e]).trans ?_
      rw [e, ek]
      rfl
    · rw [if_neg (show ¬(_ ∧ _) from fun q => hj q.2), add_zero]
      refine (congrFun (if_pos (by rw [ek]; exact hm)) j).trans (if_neg fun q => hj ?_)
      rw [ek] at q
      exact (q 0).symm
  · rw [if_neg (show ¬(_ ∧ _) from fun q => hm q.1), add_zero]
    exact congrFun (if_neg (by rw [ek]; exact hm)) j

section Rows
variable {G : ℕ → Grp Ideal} {id : ℕ → ℕ} {val : ℕ → EReal} (hG : ∀ t, InRange (G t).1)
  (hid : ∀ t (l : Fin 16), ((G t).1 (ix1 l)).toNat = id (16 * t + l.val)) (hval : ∀ t (l : Fin 16), (G t).2 (ix1 l) = val (16 * t + l.val))
include hG hid hval

/-- The first half after `T` groups. -/
theorem acc0_sum (p : S25088.Idx) : ∀ T, acc0 G T p = (∑ k ∈ range (16 * T), if id k = (p 0).val then val k else 0 : EReal)
  | 0 => Ideal.ofBits_zero_f32
  | T + 1 => by
    have hp : (p 0).val < 25088 := (p 0).isLt
    show add0 (acc0 G T) (G T) p = _
    unfold add0
    rw [dif_pos (loIdx_chk (hG T)), storeIdx_at, acc0_sum p T, Nat.mul_succ, Finset.sum_range_add,
      ← Fin.sum_univ_eq_sum_range (fun l => if id (16 * T + l) = (p 0).val then val (16 * T + l) else 0)]
    refine congrArg _ (Finset.sum_congr rfl fun l _ => ?_)
    simp only [loMask_iff (hG T), loIdx_toNat (hG T), hid, hval]
    by_cases hl : id (16 * T + l.val) < 25088
    · rw [if_pos hl]; simp only [hl, true_and]
    · rw [if_neg fun q => hl q.1, if_neg (by omega)]

/-- The second half after `T` groups. -/
theorem acc1_sum (p : S25088.Idx) : ∀ T, acc1 G T p = (∑ k ∈ range (16 * T), if id k = 25088 + (p 0).val then val k else 0 : EReal)
  | 0 => Ideal.ofBits_zero_f32
  | T + 1 => by
    show add1 (acc1 G T) (G T) p = _
    unfold add1
    rw [dif_pos (hiIdx_chk (hG T)), storeIdx_at, acc1_sum p T, Nat.mul_succ, Finset.sum_range_add,
      ← Fin.sum_univ_eq_sum_range (fun l => if id (16 * T + l) = 25088 + (p 0).val then val (16 * T + l) else 0)]
    refine congrArg _ (Finset.sum_congr rfl fun l _ => ?_)
    simp only [hiMask_iff (hG T), hiIdx_toNat (hG T), hid, hval]
    by_cases hl : 25088 ≤ id (16 * T + l.val)
    · rw [if_pos hl]
      refine if_congr ⟨fun q => by omega, fun q => ⟨hl, by omega⟩⟩ rfl rfl
    · rw [if_neg fun q => hl q.1, if_neg (by omega)]

/-- A row at a column: the sum of the values whose id is that column. -/
theorem rowVal_sum (j : ℕ) (hj : j < 50000) : rowVal G j = (∑ k ∈ range 19968, if id k = j then val k else 0 : EReal) := by
  have hn : 16 * 1248 = 19968 := by norm_num
  unfold rowVal at25
  split
  · next h =>
    refine (acc0_sum hG hid hval _ 1248).trans ?_
    rw [hn]
    refine Finset.sum_congr rfl fun k _ => if_congr ?_ rfl rfl
    show id k = j % 25088 ↔ _
    rw [Nat.mod_eq_of_lt h]
  · next h =>
    refine (acc1_sum hG hid hval _ 1248).trans ?_
    rw [hn]
    refine Finset.sum_congr rfl fun k _ => if_congr ?_ rfl rfl
    show id k = 25088 + (j - 25088) % 25088 ↔ _
    rw [Nat.mod_eq_of_lt (show j - 25088 < 25088 by omega), show 25088 + (j - 25088) = j by omega]

end Rows

/-- The value entry `k` adds to row `b`. -/
def kval (fw fb : Vec Ideal S19968 .f32) (fx : Vec Ideal S65536 .f32) (b k : ℕ) : EReal :=
  max ((rd (by decide) fw k : EReal) * (rd (by decide) fx (64 * b + 16 * (segOf (k / 16)).val + k % 16) : EReal) + (rd (by decide) fb k : EReal)) 0

/-- The kernel's output over extended reals, row `b` and column `j`. -/
theorem outVal_sum (fi : Vec Ideal S19968 .i32) (fw fb : Vec Ideal S19968 .f32) (fx : Vec Ideal S65536 .f32)
    (hfi : ∀ t, InRange (win (F := Ideal) (e := .i32) (16 * t) fi)) (b j : ℕ) (hj : j < 50000) (p : S51200000.Idx) (hp : (p 0).val = b * 50000 + j) :
    outVal fi fw fb fx p = (∑ k ∈ range 19968, if BitVec.toNat (rd (by decide) fi k) = j then kval fw fb fx b k else 0 : EReal) := by
  have e1 : (p 0).val / 50000 = b := by omega
  have e2 : (p 0).val % 50000 = j := by omega
  unfold outVal
  rw [e1, e2]
  refine rowVal_sum (id := fun k => BitVec.toNat (rd (by decide) fi k)) hfi (fun t l => ?_) (fun t l => ?_) j hj
  · exact congrArg (fun q => BitVec.toNat (fi q)) (ofLane_ix1 (n := 19968) _)
  · have hl := l.isLt
    have ew : ∀ f : Vec Ideal S19968 .f32, win (16 * t) f (ix1 l) = rd (by decide) f (16 * t + l.val) := fun f => congrArg f (ofLane_ix1 (n := 19968) _)
    have ex : splat fx b (segOf t) (ix1 l) = rd (by decide) fx (64 * b + 16 * (segOf t).val + l.val) := congrArg fx (ofLane_ix1 (n := 65536) _)
    show (max ((win (16 * t) fw (ix1 l) : EReal) * splat fx b (segOf t) (ix1 l) + win (16 * t) fb (ix1 l)) (Ideal.ofBits .f32 0x00000000#32) : EReal) = _
    rw [Ideal.ofBits_zero_f32, ew, ew, ex]
    unfold kval
    rw [show (16 * t + l.val) / 16 = t by omega, show (16 * t + l.val) % 16 = l.val by omega]

end Cert.Proof

end
-- ==== Proof.Reference.lean ====
/-
  What the reference's result holds, over extended reals: row by row and column by column, the sum of the values whose id
  is that column.
-/
module

public import proofs.«01_k».proof.Proof.Pieces
public import proofs.«01_k».proof.Proof.Gen.ReferenceIdeal
public import Idealize.ShloMosaic.Lib.Routing.OpsPair
public import Idealize.ShloMosaic.Lib.StackMember
public import Idealize.ShloMosaic.PureOps.Ideal.Laws

@[expose] public section

noncomputable section

namespace Cert.Proof

open Idealize.ShloMosaic Idealize.SL.Sem
open Idealize.ShloMosaic.ValueIdx
open Finset (range)

/-- Update `(r', k)` of a scatter of columns lands at `(r, c)` exactly when the rows are the same and word `k`, read signed, is `c`. -/
theorem lands {R C N w : ℕ} (d : ScatterDims ⟨2, ![R, C]⟩ ⟨2, ![N, 1]⟩ ⟨2, ![R, N]⟩) (huw : d.updateWindowDims = [0]) (hiw : d.insertedWindowDims = [1])
    (hsd : d.scatterDimsToOperandDims = [1]) (hiv : d.indexVectorDim = 1) (idx : IVec ⟨2, ![N, 1]⟩ w) (r' r : Fin R) (k : Fin N) (c : Fin C) :
    d.resultIdx? (ix2 r' k) idx = some (ix2 r c) ↔ r' = r ∧ (idx (ix2 k 0)).toInt = c.val := by
  obtain ⟨uw, iw, sd, iv, wf⟩ := d
  simp only at huw hiw hsd hiv
  subst huw hiw hsd hiv
  have w0 : ScatterDims.window (si := ⟨2, ![N, 1]⟩) (s := ⟨2, ![R, C]⟩) ⟨[0], [1], [1], 1, wf⟩ (ix2 r' k) 0 = r'.val := by
    unfold ScatterDims.window
    exact dif_pos (show (0 : Fin 2) ∈ (List.finRange 2).filter (fun a => decide (a ∉ [(1 : Fin 2)])) by decide)
  have w1 : ScatterDims.window (si := ⟨2, ![N, 1]⟩) (s := ⟨2, ![R, C]⟩) ⟨[0], [1], [1], 1, wf⟩ (ix2 r' k) 1 = 0 := by
    unfold ScatterDims.window
    exact dif_neg (show ¬(1 : Fin 2) ∈ (List.finRange 2).filter (fun a => decide (a ∉ [(1 : Fin 2)])) by decide)
  have s0 : ScatterDims.start (s := ⟨2, ![R, C]⟩) ⟨[0], [1], [1], 1, wf⟩ (ix2 r' k) idx 0 = 0 := by
    unfold ScatterDims.start
    exact dif_neg (show ¬(0 : Fin 2) ∈ [(1 : Fin 2)] by decide)
  have s1 : ScatterDims.start (s := ⟨2, ![R, C]⟩) ⟨[0], [1], [1], 1, wf⟩ (ix2 r' k) idx 1 = (idx (ix2 k 0)).toInt := by
    unfold ScatterDims.start
    refine (dif_pos (show (1 : Fin 2) ∈ [(1 : Fin 2)] by decide)).trans (congrArg (fun q => (idx q).toInt) ?_)
    funext b
    match b with
    | ⟨0, _⟩ => exact Fin.ext rfl
    | ⟨1, _⟩ => exact Fin.ext rfl
  rw [Routing.resultIdx?_ix2, w0, w1, s0, s1]
  constructor
  · rintro ⟨h, h'⟩
    exact ⟨Fin.ext (by omega), by omega⟩
  · rintro ⟨h, h'⟩
    subst h
    exact ⟨by omega, by omega⟩

/-- A scatter of columns that adds, read at `(r, c)`. -/
theorem scatter_sum {R C N w : ℕ} (d : ScatterDims ⟨2, ![R, C]⟩ ⟨2, ![N, 1]⟩ ⟨2, ![R, N]⟩) (huw : d.updateWindowDims = [0]) (hiw : d.insertedWindowDims = [1])
    (hsd : d.scatterDimsToOperandDims = [1]) (hiv : d.indexVectorDim = 1) (x : FVec Ideal ⟨2, ![R, C]⟩ .f32) (idx : IVec ⟨2, ![N, 1]⟩ w)
    (u : FVec Ideal ⟨2, ![R, N]⟩ .f32) (r : Fin R) (c : Fin C) :
    Host.scatterAdd d x idx u (ix2 r c)
      = (x (ix2 r c) + ∑ k : Fin N, if (idx (ix2 k 0)).toInt = c.val then (u (ix2 r k) : EReal) else 0 : EReal) := by
  show (x (ix2 r c) + ∑ j ∈ Finset.univ.filter (fun j => d.resultIdx? j idx = some (ix2 r c)), (u j : EReal) : EReal) = _
  rw [Finset.sum_filter, sum_idx2]
  simp only [lands d huw hiw hsd hiv]
  rw [Finset.sum_eq_single r]
  · simp only [true_and]
  · intro a _ ha
    simp only [ha, false_and, if_false, Finset.sum_const_zero]
  · intro h; exact absurd (Finset.mem_univ r) h

/-- The index words the reference scatters by: the ids, a negative one wrapped. In range nothing wraps. -/
theorem words {N : ℕ} (hN : N ≠ 1) (ids : IVec ⟨1, ![N]⟩ 32) (h : (⟨1, ![N]⟩ : Shape).BroadcastsInDim ⟨2, ![N, 1]⟩ (![0] : Fin 1 → Fin 2)) (k : Fin N)
    (g z : IVec ⟨1, ![N]⟩ 32) (hz : z = fun _ => 0#32) (hk : (ids (ix1 k)).toNat < 50000) :
    (broadcastInDim ⟨2, ![N, 1]⟩ ![0] h (select (cmpi .slt ids z) g ids) (ix2 k 0)).toInt = (ids (ix1 k)).toNat := by
  subst hz
  rw [broadcastInDim_apply ![0] h _ (ix2 k 0) (ix1 k) (fun a => by
    match a with
    | ⟨0, _⟩ => exact (if_neg hN).symm)]
  have e : select (cmpi .slt ids fun _ => 0#32) g ids (ix1 k) = ids (ix1 k) := Routing.wrap_of_lt (w := 32) (ids (ix1 k)) (g (ix1 k)) (by omega)
  rw [e, BitVec.toInt_eq_toNat_of_lt (by omega)]

/-- One block of the reference's values: `max (x W + b) 0`. -/
def block {n : ℕ} (x : FVec Ideal ⟨2, ![1024, 1]⟩ .f32) (W : FVec Ideal ⟨2, ![n, 1]⟩ .f32) (b : FVec Ideal ⟨1, ![n]⟩ .f32)
    (ht : (⟨2, ![n, 1]⟩ : Shape).Transposes [1, 0] ⟨2, ![1, n]⟩) (h1 : (⟨1, ![n]⟩ : Shape).BroadcastsInDim ⟨2, ![1, n]⟩ (![1] : Fin 1 → Fin 2))
    (h2 : (⟨2, ![1, n]⟩ : Shape).BroadcastsInDim ⟨2, ![1024, n]⟩ (![0, 1] : Fin 2 → Fin 2)) (h0 : (⟨0, ![]⟩ : Shape).BroadcastsInDim ⟨2, ![1024, n]⟩ (![] : Fin 0 → Fin 2)) :
    FVec Ideal ⟨2, ![1024, n]⟩ .f32 :=
  maximumf (addf (Host.dotGeneral (DotDims.plain 1024 1 n) none x (transpose ⟨2, ![1, n]⟩ [1, 0] W ht))
      (broadcastInDim ⟨2, ![1024, n]⟩ ![0, 1] h2 (broadcastInDim ⟨2, ![1, n]⟩ ![1] h1 b)))
    (broadcastInDim ⟨2, ![1024, n]⟩ ![] h0 (constant ⟨0, ![]⟩ .f32 0x00000000#32))

theorem block_at {n : ℕ} (hn : n ≠ 1) (x : FVec Ideal ⟨2, ![1024, 1]⟩ .f32) (W : FVec Ideal ⟨2, ![n, 1]⟩ .f32) (b : FVec Ideal ⟨1, ![n]⟩ .f32)
    (ht : (⟨2, ![n, 1]⟩ : Shape).Transposes [1, 0] ⟨2, ![1, n]⟩) (h1 : (⟨1, ![n]⟩ : Shape).BroadcastsInDim ⟨2, ![1, n]⟩ (![1] : Fin 1 → Fin 2))
    (h2 : (⟨2, ![1, n]⟩ : Shape).BroadcastsInDim ⟨2, ![1024, n]⟩ (![0, 1] : Fin 2 → Fin 2)) (h0 : (⟨0, ![]⟩ : Shape).BroadcastsInDim ⟨2, ![1024, n]⟩ (![] : Fin 0 → Fin 2))
    (r : Fin 1024) (k : Fin n) :
    block x W b ht h1 h2 h0 (ix2 r k) = (max ((x (ix2 r 0) : EReal) * W (ix2 k 0) + b (ix1 k)) 0 : EReal) := by
  have e1 := StackMember.dotGeneral_plain_apply (none) x (transpose ⟨2, ![1, n]⟩ [1, 0] W ht) r k
  rw [Fin.sum_univ_one, transpose_apply [1, 0] W ht (ix2 0 k) (ix2 k 0) (fun a => by
    match a with
    | ⟨0, _⟩ => rfl
    | ⟨1, _⟩ => rfl)] at e1
  have e2 : broadcastInDim ⟨2, ![1024, n]⟩ ![0, 1] h2 (broadcastInDim ⟨2, ![1, n]⟩ ![1] h1 b) (ix2 r k) = b (ix1 k) := by
    rw [broadcastInDim_apply ![0, 1] h2 _ (ix2 r k) (ix2 0 k) (fun a => by
      match a with
      | ⟨0, _⟩ => rfl
      | ⟨1, _⟩ => exact (if_neg hn).symm),
     broadcastInDim_apply ![1] h1 _ (ix2 0 k) (ix1 k) (fun a => by
      match a with
      | ⟨0, _⟩ => exact (if_neg hn).symm)]
  show (max ((Host.dotGeneral (DotDims.plain 1024 1 n) none x (transpose ⟨2, ![1, n]⟩ [1, 0] W ht) (ix2 r k) : EReal)
    + broadcastInDim ⟨2, ![1024, n]⟩ ![0, 1] h2 (broadcastInDim ⟨2, ![1, n]⟩ ![1] h1 b) (ix2 r k)) (Ideal.ofBits .f32 0x00000000#32) : EReal) = _
  rw [e1, e2, Ideal.ofBits_zero_f32]

end Cert.Proof

end
-- ==== Proof.Value.lean ====
/-
  The value equation: over extended reals the kernel's result is the reference's, for every launch whose ids are in range.
-/
module

public import proofs.«01_k».proof.Proof.Frames
public import proofs.«01_k».proof.Proof.Sums
public import proofs.«01_k».proof.Proof.Reference

@[expose] public section

noncomputable section

namespace Cert.Proof

open Idealize.ShloMosaic Idealize.SL.Sem
open Idealize.ShloMosaic.SparseCore (S V T)
open Idealize.ShloMosaic.ValueIdx
open Finset (range)
open Idealize.ShloMosaic.Tactic
open Cert.KernelIdeal (S12800 S2048 S4096 S1024 S12800x1 S2048x1 S4096x1 S1024x1 S19968 S65536 S1024x4 S1024x4x1 S1024x4x16 S51200000 S1024x50000)

attribute [local instance] Cert.Pre_in_range.Gen.facts Cert.Kernel.Gen.facts Cert.KernelIdeal.Gen.facts Cert.ReferenceIdeal.Gen.facts

section Arrays
variable (x0 x1 x2 x3 : Arr Ideal S1024x1 .f32)
  (w0 : Arr Ideal S12800x1 .f32) (b0 : Arr Ideal S12800 .f32) (w1 : Arr Ideal S2048x1 .f32) (b1 : Arr Ideal S2048 .f32)
  (w2 : Arr Ideal S4096x1 .f32) (b2 : Arr Ideal S4096 .f32) (w3 : Arr Ideal S1024x1 .f32) (b3 : Arr Ideal S1024 .f32)
  (i0 : Arr Ideal S12800 .i32) (i1 : Arr Ideal S2048 .i32) (i2 : Arr Ideal S4096 .i32) (i3 : Arr Ideal S1024 .i32)

/-- What row `r` gains from entry `k` of a table: `max (x w + b) 0`. -/
def gain {n : ℕ} (hn : 0 < n) (x : Arr Ideal S1024x1 .f32) (w : Arr Ideal ⟨2, ![n, 1]⟩ .f32) (b : Arr Ideal ⟨1, ![n]⟩ .f32) (r : Fin 1024) (k : ℕ) : EReal :=
  max ((x (ix2 r 0) : EReal) * (w (ix2 ⟨k % n, Nat.mod_lt k hn⟩ 0) : EReal) + (b (ix1 ⟨k % n, Nat.mod_lt k hn⟩) : EReal)) 0

/-- What row `r` gains from entry `k` of the four tables laid end to end. -/
def gains (r : Fin 1024) (k : ℕ) : EReal :=
  four 12800 2048 4096 (gain (by decide) x0 w0 b0 r) (gain (by decide) x1 w1 b1 r) (gain (by decide) x2 w2 b2 r) (gain (by decide) x3 w3 b3 r) k

/-! ## The kernel's side -/

/-- The weights, a column read as a vector. -/
theorem flat_at {n : ℕ} (hn : 0 < n) (w : Arr Ideal ⟨2, ![n, 1]⟩ .f32) (h : (⟨2, ![n, 1]⟩ : Shape).ShapeCasts ⟨1, ![n]⟩) (k : ℕ) :
    rd hn (shapeCast ⟨1, ![n]⟩ w h) k = w (ix2 ⟨k % n, Nat.mod_lt k hn⟩ 0) := by
  refine shapeCast_apply w h _ _ ?_
  rw [Shape.rowMajor_val_two, Shape.rowMajor_val_one]
  show k % n * 1 + 0 = k % n
  omega

/-- The splats as the call gets them. -/
def splats : Vec Ideal S65536 .f32 :=
  shapeCast S65536 (broadcastInDim S1024x4x16 ![0, 1, 2] Cert.KernelIdeal.Gen.bcast_S1024x4x1_S1024x4x16_0_1_2
    (broadcastInDim S1024x4x1 ![0, 1] Cert.KernelIdeal.Gen.bcast_S1024x4_S1024x4x1_0_1 (joinX x0 x1 x2 x3)))
    Cert.KernelIdeal.Gen.shapeCasts_S1024x4x16_S65536

/-- A splat's lane is the row's element of the segment's column. -/
theorem splats_at (r : Fin 1024) (s : Fin 4) (l : ℕ) (hl : l < 16) :
    rd (by decide) (splats x0 x1 x2 x3) (64 * r.val + 16 * s.val + l)
      = four 1 1 1 (rd2 (by decide) x0 r) (rd2 (by decide) x1 r) (rd2 (by decide) x2 r) (rd2 (by decide) x3 r) s.val := by
  have hr := r.isLt
  have hs := s.isLt
  rw [rd_of_lt (n := 65536) _ _ (show 64 * r.val + 16 * s.val + l < 65536 by omega)]
  unfold splats
  refine (shapeCast_apply _ _ _ (ix3 r s ⟨l, hl⟩) ?_).trans ?_
  · rw [Shape.rowMajor_val_three, Shape.rowMajor_val_one]
    show (r.val * 4 + s.val) * 16 + l = 64 * r.val + 16 * s.val + l
    omega
  refine (broadcastInDim_apply _ _ _ _ (ix3 r s 0) (fun a => ?_)).trans ?_
  · match a with
    | ⟨0, _⟩ => exact (if_neg (by decide : ¬(1024 : ℕ) = 1)).symm
    | ⟨1, _⟩ => exact (if_neg (by decide : ¬(4 : ℕ) = 1)).symm
    | ⟨2, _⟩ => rfl
  refine (broadcastInDim_apply _ _ _ _ (ix2 r s) (fun a => ?_)).trans ?_
  · match a with
    | ⟨0, _⟩ => exact (if_neg (by decide : ¬(1024 : ℕ) = 1)).symm
    | ⟨1, _⟩ => exact (if_neg (by decide : ¬(4 : ℕ) = 1)).symm
  exact cat2 (n0 := 1) (n1 := 1) (n2 := 1) (n3 := 1) (N := 4) (R := 1024) (by decide) (by decide) (by decide) (by decide) rfl x0 x1 x2 x3
    Cert.KernelIdeal.Gen.concatenates_S1024x1_S1024x1_S1024x1_S1024x1_S1024x4_d1 r s.val hs

theorem joinF_at (k : ℕ) (hk : k < 19968) :
    rd (by decide) (joinF b0 b1 b2 b3) k = four 12800 2048 4096 (rd (by decide) b0) (rd (by decide) b1) (rd (by decide) b2) (rd (by decide) b3) k :=
  (rd_of_lt (n := 19968) (by decide) _ hk).trans (cat1 (N := 19968) (by decide) (by decide) (by decide) (by decide) rfl b0 b1 b2 b3
    Cert.KernelIdeal.Gen.concatenates_S12800_S2048_S4096_S1024_S19968_d0 k hk)

/-- The weights, end to end. -/
def weights : Vec Ideal S19968 .f32 :=
  joinF (shapeCast S12800 w0 Cert.KernelIdeal.Gen.shapeCasts_S12800x1_S12800) (shapeCast S2048 w1 Cert.KernelIdeal.Gen.shapeCasts_S2048x1_S2048)
    (shapeCast S4096 w2 Cert.KernelIdeal.Gen.shapeCasts_S4096x1_S4096) (shapeCast S1024 w3 Cert.KernelIdeal.Gen.shapeCasts_S1024x1_S1024)

/-- What the kernel adds for an entry is what the row gains from it. -/
theorem kval_eq (r : Fin 1024) (k : ℕ) (hk : k < 19968) :
    kval (weights w0 w1 w2 w3) (joinF b0 b1 b2 b3) (splats x0 x1 x2 x3) r.val k = gains x0 x1 x2 x3 w0 b0 w1 b1 w2 b2 w3 b3 r k := by
  unfold kval
  rw [splats_at x0 x1 x2 x3 r _ _ (Nat.mod_lt k (by decide)), joinF_at _ _ _ _ k hk, weights, joinF_at _ _ _ _ k hk]
  have hx (x : Arr Ideal S1024x1 .f32) : rd2 (n := 1) (by decide) x r 0 = x (ix2 r 0) := rfl
  unfold gains four segOf
  by_cases h0 : k < 12800
  · rw [if_pos h0, if_pos h0, if_pos h0, if_pos (show k / 16 < 800 by omega), flat_at]
    show (max ((w0 (ix2 ⟨k % 12800, _⟩ 0) : EReal) * (x0 (ix2 r 0) : EReal) + _) 0 : EReal) = _
    rw [mul_comm]; rfl
  rw [if_neg h0, if_neg h0, if_neg h0, if_neg (show ¬k / 16 < 800 by omega)]
  by_cases h1 : k < 12800 + 2048
  · rw [if_pos h1, if_pos h1, if_pos h1, if_pos (show k / 16 < 928 by omega), flat_at]
    show (max ((w1 (ix2 ⟨(k - 12800) % 2048, _⟩ 0) : EReal) * (x1 (ix2 r 0) : EReal) + _) 0 : EReal) = _
    rw [mul_comm]; rfl
  rw [if_neg h1, if_neg h1, if_neg h1, if_neg (show ¬k / 16 < 928 by omega)]
  by_cases h2 : k < 12800 + 2048 + 4096
  · rw [if_pos h2, if_pos h2, if_pos h2, if_pos (show k / 16 < 1184 by omega), flat_at]
    show (max ((w2 (ix2 ⟨(k - (12800 + 2048)) % 4096, _⟩ 0) : EReal) * (x2 (ix2 r 0) : EReal) + _) 0 : EReal) = _
    rw [mul_comm]; rfl
  rw [if_neg h2, if_neg h2, if_neg h2, if_neg (show ¬k / 16 < 1184 by omega), flat_at]
  show (max ((w3 (ix2 ⟨(k - (12800 + 2048 + 4096)) % 1024, _⟩ 0) : EReal) * (x3 (ix2 r 0) : EReal) + _) 0 : EReal) = _
  rw [mul_comm]; rfl

/-! ## The reference's side -/

/-- The reference's result as a term of its arguments. -/
def refOut : Arr Ideal S1024x50000 .f32 :=
  Host.scatterAdd Cert.ReferenceIdeal.scatter_S1024x50000_S19968x1_S1024x19968_0_1_1_1
    (broadcastInDim Cert.ReferenceIdeal.S1024x50000 ![] Cert.ReferenceIdeal.Gen.bcast_S_S1024x50000 (constant Cert.ReferenceIdeal.S_ .f32 0x00000000#32))
    (broadcastInDim Cert.ReferenceIdeal.S19968x1 ![0] Cert.ReferenceIdeal.Gen.bcast_S19968_S19968x1_0
      (select (cmpi .slt (joinI i0 i1 i2 i3) (broadcastInDim S19968 ![] Cert.ReferenceIdeal.Gen.bcast_S_S19968 (constantI Cert.ReferenceIdeal.S_ 32 0#32)))
        (addi (joinI i0 i1 i2 i3) (broadcastInDim S19968 ![] Cert.ReferenceIdeal.Gen.bcast_S_S19968 (constantI Cert.ReferenceIdeal.S_ 32 50000#32)))
        (joinI i0 i1 i2 i3)))
    (concatenate Cert.ReferenceIdeal.S1024x19968 1
      [⟨Cert.ReferenceIdeal.S1024x12800, block x0 w0 b0 Cert.ReferenceIdeal.Gen.transposes_S12800x1_S1x12800_1_0 Cert.ReferenceIdeal.Gen.bcast_S12800_S1x12800_1 Cert.ReferenceIdeal.Gen.bcast_S1x12800_S1024x12800_0_1 Cert.ReferenceIdeal.Gen.bcast_S_S1024x12800⟩,
       ⟨Cert.ReferenceIdeal.S1024x2048, block x1 w1 b1 Cert.ReferenceIdeal.Gen.transposes_S2048x1_S1x2048_1_0 Cert.ReferenceIdeal.Gen.bcast_S2048_S1x2048_1 Cert.ReferenceIdeal.Gen.bcast_S1x2048_S1024x2048_0_1 Cert.ReferenceIdeal.Gen.bcast_S_S1024x2048⟩,
       ⟨Cert.ReferenceIdeal.S1024x4096, block x2 w2 b2 Cert.ReferenceIdeal.Gen.transposes_S4096x1_S1x4096_1_0 Cert.ReferenceIdeal.Gen.bcast_S4096_S1x4096_1 Cert.ReferenceIdeal.Gen.bcast_S1x4096_S1024x4096_0_1 Cert.ReferenceIdeal.Gen.bcast_S_S1024x4096⟩,
       ⟨Cert.ReferenceIdeal.S1024x1024, block x3 w3 b3 Cert.ReferenceIdeal.Gen.transposes_S1024x1_S1x1024_1_0 Cert.ReferenceIdeal.Gen.bcast_S1024_S1x1024_1 Cert.ReferenceIdeal.Gen.bcast_S1x1024_S1024x1024_0_1 Cert.ReferenceIdeal.Gen.bcast_S_S1024x1024⟩]
      Cert.ReferenceIdeal.Gen.concatenates_S1024x12800_S1024x2048_S1024x4096_S1024x1024_S1024x19968_d1)

theorem joinI_lt (h : (∀ i, (i0 i).toNat < 50000) ∧ (∀ i, (i1 i).toNat < 50000) ∧ (∀ i, (i2 i).toNat < 50000) ∧ ∀ i, (i3 i).toNat < 50000) (k : Fin 19968) :
    (joinI i0 i1 i2 i3 (ix1 k)).toNat < 50000 := by
  have q := inRange_join (F := Ideal) i0 i1 i2 i3 h k.val (ix1 (0 : Fin 16))
  have e : win (F := Ideal) (e := .i32) k.val (joinI i0 i1 i2 i3) (ix1 (0 : Fin 16)) = joinI i0 i1 i2 i3 (ix1 k) :=
    congrArg (joinI i0 i1 i2 i3) ((ofLane_ix1 (n := 19968) _).trans (congrArg ix1 (Fin.ext (Nat.mod_eq_of_lt k.isLt))))
  exact lt_of_eq_of_lt (congrArg BitVec.toNat e.symm) q

/-- A block's element is the row's gain. -/
theorem rd2_block {n : ℕ} (hn : 0 < n) (h1n : n ≠ 1) (x : Arr Ideal S1024x1 .f32) (w : Arr Ideal ⟨2, ![n, 1]⟩ .f32) (b : Arr Ideal ⟨1, ![n]⟩ .f32)
    (ht : (⟨2, ![n, 1]⟩ : Shape).Transposes [1, 0] ⟨2, ![1, n]⟩) (h1 : (⟨1, ![n]⟩ : Shape).BroadcastsInDim ⟨2, ![1, n]⟩ (![1] : Fin 1 → Fin 2))
    (h2 : (⟨2, ![1, n]⟩ : Shape).BroadcastsInDim ⟨2, ![1024, n]⟩ (![0, 1] : Fin 2 → Fin 2)) (h0 : (⟨0, ![]⟩ : Shape).BroadcastsInDim ⟨2, ![1024, n]⟩ (![] : Fin 0 → Fin 2))
    (r : Fin 1024) : rd2 hn (block x w b ht h1 h2 h0) r = gain hn x w b r := by
  funext k
  exact block_at h1n x w b ht h1 h2 h0 r _

/-- The reference's result, row `r` and column `c`. -/
theorem refOut_sum (h : (∀ i, (i0 i).toNat < 50000) ∧ (∀ i, (i1 i).toNat < 50000) ∧ (∀ i, (i2 i).toNat < 50000) ∧ ∀ i, (i3 i).toNat < 50000)
    (r : Fin 1024) (c : Fin 50000) :
    refOut x0 x1 x2 x3 w0 b0 w1 b1 w2 b2 w3 b3 i0 i1 i2 i3 (ix2 r c)
      = (∑ k ∈ range 19968, if BitVec.toNat (rd (by decide) (joinI i0 i1 i2 i3) k) = c.val then gains x0 x1 x2 x3 w0 b0 w1 b1 w2 b2 w3 b3 r k else 0 : EReal) := by
  unfold refOut
  refine (scatter_sum (R := 1024) (C := 50000) (N := 19968) Cert.ReferenceIdeal.scatter_S1024x50000_S19968x1_S1024x19968_0_1_1_1 rfl rfl rfl rfl _ _ _ r c).trans ?_
  have z : (broadcastInDim Cert.ReferenceIdeal.S1024x50000 ![] Cert.ReferenceIdeal.Gen.bcast_S_S1024x50000 (constant (F := Ideal) Cert.ReferenceIdeal.S_ .f32 0x00000000#32) (ix2 r c) : EReal) = 0 := Ideal.ofBits_zero_f32
  refine (congrArg₂ (fun a b : EReal => a + b) z rfl).trans ?_
  rw [zero_add, ← Fin.sum_univ_eq_sum_range (fun k => if BitVec.toNat (rd (by decide) (joinI i0 i1 i2 i3) k) = c.val then gains x0 x1 x2 x3 w0 b0 w1 b1 w2 b2 w3 b3 r k else 0)]
  refine Finset.sum_congr rfl fun k _ => ?_
  have hi := words (N := 19968) (by decide) (joinI i0 i1 i2 i3) Cert.ReferenceIdeal.Gen.bcast_S19968_S19968x1_0 k
    (addi (joinI i0 i1 i2 i3) (broadcastInDim S19968 ![] Cert.ReferenceIdeal.Gen.bcast_S_S19968 (constantI Cert.ReferenceIdeal.S_ 32 50000#32)))
    (broadcastInDim S19968 ![] Cert.ReferenceIdeal.Gen.bcast_S_S19968 (constantI Cert.ReferenceIdeal.S_ 32 0#32)) rfl (joinI_lt i0 i1 i2 i3 h k)
  refine if_congr ?_ ?_ rfl
  · rw [rd_of_lt (n := 19968) _ _ k.isLt]
    refine (iff_of_eq (congrArg (· = (c.val : ℤ)) hi)).trans ?_
    exact Int.ofNat_inj
  · refine (cat2 (N := 19968) (R := 1024) (n0 := 12800) (n1 := 2048) (n2 := 4096) (n3 := 1024) (by decide) (by decide) (by decide) (by decide) rfl _ _ _ _
      Cert.ReferenceIdeal.Gen.concatenates_S1024x12800_S1024x2048_S1024x4096_S1024x1024_S1024x19968_d1 r k.val k.isLt).trans ?_
    rw [rd2_block _ (by decide), rd2_block _ (by decide), rd2_block _ (by decide), rd2_block _ (by decide)]
    rfl

/-- The kernel's result, read as rows and columns, is the reference's. -/
theorem values_eq (h : (∀ i, (i0 i).toNat < 50000) ∧ (∀ i, (i1 i).toNat < 50000) ∧ (∀ i, (i2 i).toNat < 50000) ∧ ∀ i, (i3 i).toNat < 50000) :
    shapeCast S1024x50000 (outVal (F := Ideal) (joinI i0 i1 i2 i3) (weights w0 w1 w2 w3) (joinF b0 b1 b2 b3) (splats x0 x1 x2 x3)) Cert.KernelIdeal.Gen.shapeCasts_S51200000_S1024x50000
      = refOut x0 x1 x2 x3 w0 b0 w1 b1 w2 b2 w3 b3 i0 i1 i2 i3 := by
  funext q
  obtain ⟨r, c, rfl⟩ : ∃ (r : Fin 1024) (c : Fin 50000), q = ix2 r c := ⟨q 0, q 1, eq_ix2 q⟩
  have hr := r.isLt
  have hc := c.isLt
  rw [refOut_sum x0 x1 x2 x3 w0 b0 w1 b1 w2 b2 w3 b3 i0 i1 i2 i3 h r c]
  refine (shapeCast_apply _ _ _ (ix1 (⟨r.val * 50000 + c.val, by omega⟩ : Fin 51200000)) ?_).trans ?_
  · rw [Shape.rowMajor_val_two, Shape.rowMajor_val_one]
    rfl
  refine (outVal_sum _ _ _ _ (fun t => inRange_join (F := Ideal) i0 i1 i2 i3 h (16 * t)) r.val c.val hc _ rfl).trans ?_
  refine Finset.sum_congr rfl fun k hk => ?_
  rw [kval_eq x0 x1 x2 x3 w0 b0 w1 b1 w2 b2 w3 b3 r k (Finset.mem_range.1 hk)]

end Arrays

/-! ## The two runs -/

set_option maxRecDepth 8192 in
/-- The reference's run ends with this term of its arguments. -/
theorem res_eq (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_out0 m' c
      = refOut (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg9))
          (m' ((c.tc : Thread Cert.ReferenceIdeal.nD Cert.ReferenceIdeal.τ).loc Cert.ReferenceIdeal.main_arg10))
          (m' ((c.tc : Thread Cert.ReferenceIdeal.nD Cert.ReferenceIdeal.τ).loc Cert.ReferenceIdeal.main_arg11))
          (m' ((c.tc : Thread Cert.ReferenceIdeal.nD Cert.ReferenceIdeal.τ).loc Cert.ReferenceIdeal.main_arg12))
          (m' ((c.tc : Thread Cert.ReferenceIdeal.nD Cert.ReferenceIdeal.τ).loc Cert.ReferenceIdeal.main_arg13))
          (m' ((c.tc : Thread Cert.ReferenceIdeal.nD Cert.ReferenceIdeal.τ).loc Cert.ReferenceIdeal.main_arg14))
          (m' ((c.tc : Thread Cert.ReferenceIdeal.nD Cert.ReferenceIdeal.τ).loc Cert.ReferenceIdeal.main_arg15)) := by
  unfold Cert.ReferenceIdeal.Value.res_out0 Cert.ReferenceIdeal.Value.res_main_v37
  rfl

/-- The kernel's run ends with the call's array, read as rows and columns. -/
theorem V₃_v12 (m : (ℓ : Loc Cert.KernelIdeal.nD Cert.KernelIdeal.τ Cert.KernelIdeal.sig) → Buf (Elt Ideal) ℓ) (d : Dev Cert.KernelIdeal.nD) :
    V₃ m d (Proc.devRef .tc Cert.KernelIdeal.main_v12)
      = shapeCast S1024x50000 (callOut m d) Cert.KernelIdeal.Gen.shapeCasts_S51200000_S1024x50000 := by
  have e := V₂_v11 m d
  unfold V₃ lastOps
  after_results
  rw [e]
  rfl

/-- Over extended reals the kernel and the reference, run from launches with equal arguments whose ids are in range, end with equal results and
    their arguments unchanged. -/
theorem algebraic : Cert.algebraic_KernelIdeal_ReferenceIdeal := by
  intro m g m' g' hpre hargs
  refine ⟨fun c => V₃ m c (Proc.devRef .tc Cert.KernelIdeal.main_v12), ?_, ?_⟩
  · exact (θ_run Cert.KernelIdeal.defs _ _).mono (fun _ h c => ⟨read_end (F := Ideal) m h c _, args_end (F := Ideal) m h c⟩)
      (run_all (F := Ideal) m g fun d t => inRange_join _ _ _ _ (ids_of_pre _ _ _ _ _ _ _ _ _ _ _ _ _ _ _ _ (hpre d)) _)
  · refine (θ_run Cert.ReferenceIdeal.defs _ _).mono (fun r h c => ⟨(h c).1.trans ?_, (h c).2⟩) (Cert.ReferenceIdeal.Value.run (F := Ideal) m' g')
    have hids := ids_of_pre _ _ _ _ _ _ _ _ _ _ _ _ _ _ _ _ (hpre c)
    obtain ⟨e0, e1, e2, e3, e4, e5, e6, e7, e8, e9, e10, e11, e12, e13, e14, e15⟩ := hargs c
    refine (res_eq m' c).trans ?_
    refine Eq.trans ?_ ((values_eq (arg m Cert.KernelIdeal.main_arg0 c) (arg m Cert.KernelIdeal.main_arg1 c) (arg m Cert.KernelIdeal.main_arg2 c) (arg m Cert.KernelIdeal.main_arg3 c)
      (arg m Cert.KernelIdeal.main_arg4 c) (arg m Cert.KernelIdeal.main_arg5 c) (arg m Cert.KernelIdeal.main_arg6 c) (arg m Cert.KernelIdeal.main_arg7 c)
      (arg m Cert.KernelIdeal.main_arg8 c) (arg m Cert.KernelIdeal.main_arg9 c) (arg m Cert.KernelIdeal.main_arg10 c) (arg m Cert.KernelIdeal.main_arg11 c)
      (arg m Cert.KernelIdeal.main_arg12 c) (arg m Cert.KernelIdeal.main_arg13 c) (arg m Cert.KernelIdeal.main_arg14 c) (arg m Cert.KernelIdeal.main_arg15 c) hids).symm.trans (V₃_v12 m c).symm)
    rw [e0, e1, e2, e3, e4, e5, e6, e7, e8, e9, e10, e11, e12, e13, e14, e15]

end Cert.Proof

end
-- ==== Proof.lean ====
/- The six conjuncts of the claim, put together: the frames of the kernel over bit patterns and over extended reals, the frames of the
   reference, and the value equation of the two. The ideal program has no rewrites, so what it preserves is trivial. -/
module

public import proofs.«01_k».proof.Proof.Gen.ReferenceIdeal.Run
public import proofs.«01_k».proof.Proof.Frames
public import proofs.«01_k».proof.Proof.Value
public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_in_range
public import Idealize.ShloMosaic.Adequacy
public import Idealize.ShloMosaic.Init

@[expose] public section

noncomputable section

namespace Cert.Proof

open Idealize.ShloMosaic Idealize.SL.Sem Cert.Kernel

/-- Everything claimed: each program runs without fault, leaves its arguments unchanged and its counters at zero, and over extended reals
    the kernel and the reference end with equal results. -/
theorem claim : Cert.Claim :=
  ⟨Cert.Kernel.Gen.facts, Cert.KernelIdeal.Gen.facts, Cert.ReferenceIdeal.Gen.facts, Cert.Pre_in_range.Gen.facts,
    frame_kernel, frame_ideal, frame_reference, frame_reference_pre, trivial, algebraic⟩

end Cert.Proof

end
